-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x4096x512 : Shape := ⟨3, ![1, 4096, 512]⟩
abbrev S1x4096x4096 : Shape := ⟨3, ![1, 4096, 4096]⟩
abbrev S_ : Shape := ⟨0, ![]⟩
abbrev S512x128 : Shape := ⟨2, ![512, 128]⟩
abbrev S128 : Shape := ⟨1, ![128]⟩
abbrev S1x128 : Shape := ⟨2, ![1, 128]⟩
abbrev S128x128 : Shape := ⟨2, ![128, 128]⟩
abbrev S1 : Shape := ⟨1, ![1]⟩

class Facts : Prop where
  bcast_S_S1x4096x512 : S_.BroadcastsInDim S1x4096x512 (![] : Fin 0 → Fin S1x4096x512.rank)
  bcast_S_S1x4096x4096 : S_.BroadcastsInDim S1x4096x4096 (![] : Fin 0 → Fin S1x4096x4096.rank)
  bcast_S_S512x128 : S_.BroadcastsInDim S512x128 (![] : Fin 0 → Fin S512x128.rank)
  bcast_S_S128 : S_.BroadcastsInDim S128 (![] : Fin 0 → Fin S128.rank)
  bcast_S_S1x128 : S_.BroadcastsInDim S1x128 (![] : Fin 0 → Fin S1x128.rank)
  bcast_S_S128x128 : S_.BroadcastsInDim S128x128 (![] : Fin 0 → Fin S128x128.rank)

variable [Facts]

def fn_part1 {F : FTy → Type} [FloatOps F] (main_arg7 : FVec F S128x128 .f32) (main_v2 : IVec S1x4096x512 1) (main_v5 : IVec S1x4096x512 1) (main_v8 : IVec S1x4096x4096 1) (main_v11 : IVec S512x128 1) (main_v14 : IVec S128 1) (main_v17 : IVec S1x128 1) : IVec S1x4096x512 1 × IVec S1x4096x512 1 × IVec S1x4096x4096 1 × IVec S512x128 1 × IVec S128 1 × IVec S1x128 1 × IVec S128x128 1 :=
  let main_v18 : FVec F S128x128 .f32 := Host.absf main_arg7
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  (main_v2, main_v5, main_v8, main_v11, main_v14, main_v17, main_v20)

def fn {F : FTy → Type} [FloatOps F] (main_arg0 : FVec F S1x4096x512 .f32) (main_arg1 : FVec F S1x4096x512 .f32) (main_arg2 : FVec F S1x4096x4096 .f32) (main_arg3 : IVec S_ 32) (main_arg4 : FVec F S512x128 .f32) (main_arg5 : FVec F S128 .f32) (main_arg6 : FVec F S1x128 .f32) (main_arg7 : FVec F S128x128 .f32) (main_arg8 : FVec F S1 .f32) : IVec S1x4096x512 1 × IVec S1x4096x512 1 × IVec S1x4096x4096 1 × IVec S512x128 1 × IVec S128 1 × IVec S1x128 1 × IVec S128x128 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_v3 : FVec F S1x4096x512 .f32 := Host.absf main_arg1
  let main_cst_0 : FVec F S_ .f32 := constant S_ .f32 0x7F800000#32
  let main_v4 : FVec F S1x4096x512 .f32 := broadcastInDim S1x4096x512 ![] bcast_S_S1x4096x512 main_cst_0
  let main_v5 : IVec S1x4096x512 1 := cmpf .olt main_v3 main_v4
  let main_v6 : FVec F S1x4096x4096 .f32 := Host.absf main_arg2
  let main_cst_1 : FVec F S_ .f32 := constant S_ .f32 0x7F800000#32
  let main_v7 : FVec F S1x4096x4096 .f32 := broadcastInDim S1x4096x4096 ![] bcast_S_S1x4096x4096 main_cst_1
  let main_v8 : IVec S1x4096x4096 1 := cmpf .olt main_v6 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S1x128 .f32 := Host.absf main_arg6
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  fn_part1 (F := F) main_arg7 main_v2 main_v5 main_v8 main_v11 main_v14 main_v17
-- ==== Kernel.lean ====
abbrev S1x4096x512 : Shape := ⟨3, ![1, 4096, 512]⟩
abbrev S1x4096x4096 : Shape := ⟨3, ![1, 4096, 4096]⟩
abbrev S_ : Shape := ⟨0, ![]⟩
abbrev S512x128 : Shape := ⟨2, ![512, 128]⟩
abbrev S128 : Shape := ⟨1, ![128]⟩
abbrev S1x128 : Shape := ⟨2, ![1, 128]⟩
abbrev S128x128 : Shape := ⟨2, ![128, 128]⟩
abbrev S1 : Shape := ⟨1, ![1]⟩
abbrev S4096x512 : Shape := ⟨2, ![4096, 512]⟩
abbrev S4096x4096 : Shape := ⟨2, ![4096, 4096]⟩
abbrev S1x1 : Shape := ⟨2, ![1, 1]⟩
abbrev S2x4096 : Shape := ⟨2, ![2, 4096]⟩
abbrev S1024x4096 : Shape := ⟨2, ![1024, 4096]⟩
abbrev S4096x256 : Shape := ⟨2, ![4096, 256]⟩
abbrev S4096x128 : Shape := ⟨2, ![4096, 128]⟩
abbrev S1024x256 : Shape := ⟨2, ![1024, 256]⟩
abbrev S1024x128 : Shape := ⟨2, ![1024, 128]⟩
abbrev S1x4096 : Shape := ⟨2, ![1, 4096]⟩
abbrev S1x8192 : Shape := ⟨2, ![1, 8192]⟩

abbrev nBuf : Space → Nat
  | .hbm => 16
  | .vmem => 13
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x4096, .f32⟩
  | .hbm, ⟨3, _⟩ => ⟨S_, .i32⟩
  | .hbm, ⟨4, _⟩ => ⟨S512x128, .f32⟩
  | .hbm, ⟨5, _⟩ => ⟨S128, .f32⟩
  | .hbm, ⟨6, _⟩ => ⟨S1x128, .f32⟩
  | .hbm, ⟨7, _⟩ => ⟨S128x128, .f32⟩
  | .hbm, ⟨8, _⟩ => ⟨S1, .f32⟩
  | .hbm, ⟨9, _⟩ => ⟨S4096x512, .f32⟩
  | .hbm, ⟨10, _⟩ => ⟨S4096x512, .f32⟩
  | .hbm, ⟨11, _⟩ => ⟨S4096x4096, .f32⟩
  | .hbm, ⟨12, _⟩ => ⟨S1x128, .f32⟩
  | .hbm, ⟨13, _⟩ => ⟨S1x1, .f32⟩
  | .hbm, ⟨14, _⟩ => ⟨S2x4096, .f32⟩
  | .hbm, ⟨15, _⟩ => ⟨S1x8192, .f32⟩
  | .local _ .vmem, ⟨0, _⟩ => ⟨S4096x512, .f32⟩
  | .local _ .vmem, ⟨1, _⟩ => ⟨S4096x512, .f32⟩
  | .local _ .vmem, ⟨2, _⟩ => ⟨S512x128, .f32⟩
  | .local _ .vmem, ⟨3, _⟩ => ⟨S1x128, .f32⟩
  | .local _ .vmem, ⟨4, _⟩ => ⟨S1024x4096, .f32⟩
  | .local _ .vmem, ⟨5, _⟩ => ⟨S1024x4096, .f32⟩
  | .local _ .vmem, ⟨6, _⟩ => ⟨S128x128, .f32⟩
  | .local _ .vmem, ⟨7, _⟩ => ⟨S1x128, .f32⟩
  | .local _ .vmem, ⟨8, _⟩ => ⟨S1x1, .f32⟩
  | .local _ .vmem, ⟨9, _⟩ => ⟨S2x4096, .f32⟩
  | .local _ .vmem, ⟨10, _⟩ => ⟨S4096x256, .bf16⟩
  | .local _ .vmem, ⟨11, _⟩ => ⟨S4096x256, .f32⟩
  | .local _ .vmem, ⟨12, _⟩ => ⟨S1x128, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v20 : BitVec 32 := Scalar.muli arg0 c1024_i32
  let v21 : Index := Scalar.indexCast v20
  let c0_8 : Index := 0#32
  ![v21.toNat, 0]
def k0_off2 (i : grid0.Coords) : Fin 2 → Nat :=
  let arg0 : BitVec 32 := BitVec.ofNat 32 (i 0).val
  let c1024_i32_9 : BitVec 32 := 1024#32
  let v25 : BitVec 32 := Scalar.muli arg0 c1024_i32_9
  let v26 : Index := Scalar.indexCast v25
  let c128 : Index := 128#32
  ![v26.toNat, 128]
def k0_cond4 (i : grid0.Coords) : BitVec 1 :=
  let arg0 : BitVec 32 := BitVec.ofNat 32 (i 0).val
  let c3_i32 : BitVec 32 := 3#32
  let v38 : BitVec 1 := Scalar.cmpi .eq arg0 c3_i32
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x4096x512 : Shape := ⟨3, ![1, 4096, 512]⟩
abbrev S1x4096x4096 : Shape := ⟨3, ![1, 4096, 4096]⟩
abbrev S_ : Shape := ⟨0, ![]⟩
abbrev S512x128 : Shape := ⟨2, ![512, 128]⟩
abbrev S128 : Shape := ⟨1, ![128]⟩
abbrev S1x128 : Shape := ⟨2, ![1, 128]⟩
abbrev S128x128 : Shape := ⟨2, ![128, 128]⟩
abbrev S1 : Shape := ⟨1, ![1]⟩
abbrev S1x4096x128 : Shape := ⟨3, ![1, 4096, 128]⟩
abbrev S4096x4096 : Shape := ⟨2, ![4096, 4096]⟩
abbrev S4096x128 : Shape := ⟨2, ![4096, 128]⟩
abbrev S1x1x128 : Shape := ⟨3, ![1, 1, 128]⟩
abbrev S128x1x4096 : Shape := ⟨3, ![128, 1, 4096]⟩
abbrev S1x4096 : Shape := ⟨2, ![1, 4096]⟩
abbrev S1x1 : Shape := ⟨2, ![1, 1]⟩
abbrev S1x8192 : Shape := ⟨2, ![1, 8192]⟩

abbrev nBuf : Space → Nat
  | .hbm => 71
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x4096, .f32⟩
  | .hbm, ⟨3, _⟩ => ⟨S_, .i32⟩
  | .hbm, ⟨4, _⟩ => ⟨S512x128, .f32⟩
  | .hbm, ⟨5, _⟩ => ⟨S128, .f32⟩
  | .hbm, ⟨6, _⟩ => ⟨S1x128, .f32⟩
  | .hbm, ⟨7, _⟩ => ⟨S128x128, .f32⟩
  | .hbm, ⟨8, _⟩ => ⟨S1, .f32⟩
  | .hbm, ⟨9, _⟩ => ⟨S1x4096x128, .f32⟩
  | .hbm, ⟨10, _⟩ => ⟨S4096x4096, .f32⟩
  | .hbm, ⟨11, _⟩ => ⟨S4096x128, .f32⟩
  | .hbm, ⟨12, _⟩ => ⟨S4096x128, .f32⟩
  | .hbm, ⟨13, _⟩ => ⟨S1x4096x128, .f32⟩
  | .hbm, ⟨14, _⟩ => ⟨S1x1x128, .f32⟩
  | .hbm, ⟨15, _⟩ => ⟨S1x4096x128, .f32⟩
  | .hbm, ⟨16, _⟩ => ⟨S1x4096x128, .f32⟩
  | .hbm, ⟨17, _⟩ => ⟨S_, .f32⟩
  | .hbm, ⟨18, _⟩ => ⟨S1x4096x128, .f32⟩
  | .hbm, ⟨19, _⟩ => ⟨S1x4096x128, .f32⟩
  | .hbm, ⟨20, _⟩ => ⟨S1x4096x128, .f32⟩
  | .hbm, ⟨21, _⟩ => ⟨S4096x4096, .f32⟩
  | .hbm, ⟨22, _⟩ => ⟨S4096x128, .f32⟩
  | .hbm, ⟨23, _⟩ => ⟨S4096x128, .f32⟩
  | .hbm, ⟨24, _⟩ => ⟨S1x4096x128, .f32⟩
  | .hbm, ⟨25, _⟩ => ⟨S1x1x128, .f32⟩
  | .hbm, ⟨26, _⟩ => ⟨S1x4096x128, .f32⟩
  | .hbm, ⟨27, _⟩ => ⟨S1x4096x128, .f32⟩
  | .hbm, ⟨28, _⟩ => ⟨S_, .f32⟩
  | .hbm, ⟨29, _⟩ => ⟨S1x4096x128, .f32⟩
  | .hbm, ⟨30, _⟩ => ⟨S1x4096x128, .f32⟩
  | .hbm, ⟨31, _⟩ => ⟨S_, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x4096x128, .f32⟩
  | .hbm, ⟨45, _⟩ => ⟨S4096x4096, .f32⟩
  | .hbm, ⟨46, _⟩ => ⟨S4096x128, .f32⟩
  | .hbm, ⟨47, _⟩ => ⟨S4096x128, .f32⟩
  | .hbm, ⟨48, _⟩ => ⟨S1x4096x128, .f32⟩
  | .hbm, ⟨49, _⟩ => ⟨S1x1x128, .f32⟩
  | .hbm, ⟨50, _⟩ => ⟨S1x4096x128, .f32⟩
  | .hbm, ⟨51, _⟩ => ⟨S1x4096x128, .f32⟩
  | .hbm, ⟨52, _⟩ => ⟨S_, .f32⟩
  | .hbm, ⟨53, _⟩ => ⟨S1x4096x128, .f32⟩
  | .hbm, ⟨54, _⟩ => ⟨S1x4096x128, .f32⟩
  | .hbm, ⟨55, _⟩ => ⟨S1x1x128, .f32⟩
  | .hbm, ⟨56, _⟩ => ⟨S1x4096x128, .f32⟩
  | .hbm, ⟨57, _⟩ => ⟨S1x4096x128, .f32⟩
  | .hbm, ⟨58, _⟩ => ⟨S1x1x128, .f32⟩
  | .hbm, ⟨59, _⟩ => ⟨S1x4096x128, .f32⟩
  | .hbm, ⟨60, _⟩ => ⟨S128x1x4096, .f32⟩
  | .hbm, ⟨61, _⟩ => ⟨S1x4096, .f32⟩
  | .hbm, ⟨62, _⟩ => ⟨S1x1, .f32⟩
  | .hbm, ⟨63, _⟩ => ⟨S1x4096, .f32⟩
  | .hbm, ⟨64, _⟩ => ⟨S1x4096, .f32⟩
  | .hbm, ⟨65, _⟩ => ⟨S128x1x4096, .f32⟩
  | .hbm, ⟨66, _⟩ => ⟨S1x4096, .f32⟩
  | .hbm, ⟨67, _⟩ => ⟨S1x1, .f32⟩
  | .hbm, ⟨68, _⟩ => ⟨S1x4096, .f32⟩
  | .hbm, ⟨69, _⟩ => ⟨S1x4096, .f32⟩
  | .hbm, ⟨70, _⟩ => ⟨S1x8192, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call2_cst : Ref sig .tc := ⟨.hbm, 52, rfl⟩
abbrev main_call2_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.Setup.lean ====
/-
  What the runs of the ideal kernel's body share: when each of the body's four conditionals is taken, the memrefs a grid
  point hands the body, and the values the body computes, named as plain functions of the blocks it reads.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.WordCmp
public import Idealize.ShloMosaic.Lib.WritesUnit
public import Idealize.ShloMosaic.Lib.Tactic
public import Idealize.ShloMosaic.Lib.Ring
public import Idealize.ShloMosaic.Lib.Pipeline.Value
public import Idealize.ShloMosaic.Lib.Pipeline.ValueKit.Tiles
public import Idealize.ShloMosaic.Lib.ValueIdxCore

@[expose] public section

set_option maxRecDepth 16384

noncomputable section

namespace Cert.KernelIdeal.Disc

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## When the conditionals are taken -/

/-- The condition under which the body computes the features (and, written a second time, starts the column sum). -/
abbrev atFirst (i : grid0.Coords) : Prop :=
  (Scalar.cmpi .ne (Scalar.extui (Scalar.cmpi .eq (BitVec.ofNat 32 (i 0).val) 0#32)) 0#32) = 1#1

/-- The condition under which the body adds to the column sum. -/
abbrev pastFirst (i : grid0.Coords) : Prop :=
  (Scalar.cmpi .ne (Scalar.extui (Scalar.cmpi .ne (BitVec.ofNat 32 (i 0).val) 0#32)) 0#32) = 1#1

/-- The condition under which the body writes the scores. -/
abbrev atLast (i : grid0.Coords) : Prop := k0_cond4 i = 1#1

/-- The grid has one axis, so a point's coordinate is its number. -/
theorem coord_eq (t : Fin cfg0.N) : (grid0.coords t 0).val = t.val := by
  have ht : t.val < 4 := Nat.lt_of_lt_of_eq t.isLt N_0
  have e : (grid0.coords t 0).val = t.val / 1 % 4 := Pipeline.Grid.coords_val t 0 (by decide) rfl
  omega

/-- The features are computed at the first point and at no other. -/
theorem atFirst_iff (t : Fin cfg0.N) : atFirst (grid0.coords t) ↔ t.val = 0 := by
  have ht : t.val < 4 := Nat.lt_of_lt_of_eq t.isLt N_0
  simp only [atFirst, coord_eq]
  word_cmp

/-- The column sum is added to at every later point. -/
theorem pastFirst_iff (t : Fin cfg0.N) : pastFirst (grid0.coords t) ↔ 1 ≤ t.val := by
  have ht : t.val < 4 := Nat.lt_of_lt_of_eq t.isLt N_0
  simp only [pastFirst, coord_eq]
  word_cmp

/-- The scores are written at the last point and at no other. -/
theorem atLast_iff (t : Fin cfg0.N) : atLast (grid0.coords t) ↔ t.val = 3 := by
  have ht : t.val < 4 := Nat.lt_of_lt_of_eq t.isLt N_0
  simp only [atLast, k0_cond4, coord_eq]
  word_cmp

/-! ## The memrefs a point hands the body -/

abbrev sm0 (t : Fin cfg0.N) : Memref sig .tc .vmem S4096x512 .f32 := win0_0.stage (cfg0.slots t 0)
abbrev sm1 (t : Fin cfg0.N) : Memref sig .tc .vmem S4096x512 .f32 := win0_1.stage (cfg0.slots t 1)
abbrev sm2 (t : Fin cfg0.N) : Memref sig .tc .vmem S512x128 .f32 := win0_2.stage (cfg0.slots t 2)
abbrev sm3 (t : Fin cfg0.N) : Memref sig .tc .vmem S1x128 .f32 := win0_3.stage (cfg0.slots t 3)
abbrev sm4 (t : Fin cfg0.N) : Memref sig .tc .vmem S1024x4096 .f32 := win0_4.stage (cfg0.slots t 4)
abbrev sm5 (t : Fin cfg0.N) : Memref sig .tc .vmem S128x128 .f32 := win0_5.stage (cfg0.slots t 5)
abbrev sm6 (t : Fin cfg0.N) : Memref sig .tc .vmem S1x128 .f32 := win0_6.stage (cfg0.slots t 6)
abbrev sm7 (t : Fin cfg0.N) : Memref sig .tc .vmem S1x1 .f32 := win0_7.stage (cfg0.slots t 7)
abbrev sm8 (t : Fin cfg0.N) : Memref sig .tc .vmem S2x4096 .f32 := win0_8.stage (cfg0.slots t 8)

/-- The scratch of the features, of the hidden rows and of the column sum. -/
abbrev scF : Memref sig .tc .vmem S4096x256 .bf16 := Memref.whole cc0_scratch0
abbrev scH : Memref sig .tc .vmem S4096x256 .f32 := Memref.whole cc0_scratch1
abbrev scA : Memref sig .tc .vmem S1x128 .f32 := Memref.whole cc0_scratch2

/-- What the launch hands the region beside the windows: the three scratches at any contents and the generator. -/
theorem scratches_eq (c : Dev nD) :
    (Pipeline.ΦA spec0 c : sProp 𝕄)
      = iprop(iprop((∃ d, owns (c : Thread nD τ) scF fullShare d) ∗ (∃ d, owns (c : Thread nD τ) scH fullShare d)
          ∗ (∃ d, owns (c : Thread nD τ) scA fullShare d)) ∗ (∃ r, prngReg c r)) := by
  unfold Pipeline.ΦA; rw [scopedRest0_eq]; simp only [scF, scH, scA, owns_whole]; try rfl

/-! ## What the body leaves, as functions -/

/-- Two matrices of 128 columns side by side. -/
def beside {n : Nat} {e : EltTy} (a b : Vec F ⟨2, ![n, 128]⟩ e) : Vec F ⟨2, ![n, 256]⟩ e := fun y =>
  if h : (y 1).val < 128 then a (ix2 (y 0) ⟨(y 1).val, h⟩)
  else b (ix2 (y 0) ⟨(y 1).val - 128, by have : (y 1).val < 256 := (y 1).isLt; omega⟩)

/-- `d` with the rows from `o` on replaced by the 1024 rows of `p`. -/
def putRows (o : Nat) (p : Vec F S1024x256 .f32) (d : Vec F S4096x256 .f32) : Vec F S4096x256 .f32 := fun y =>
  if h : o ≤ (y 0).val ∧ (y 0).val < o + 1024 then p (ix2 ⟨(y 0).val - o, by omega⟩ (y 1)) else d y

/-- The features: each sequence times the weight, side by side. -/
def feats (s1 s2 : Vec F S4096x512 .f32) (w : Vec F S512x128 .f32) : Vec F S4096x256 .bf16 :=
  beside (n := 4096) (k0_pay6 w s1) (k0_pay7 w s2)

/-- One block of hidden rows, from a block of adjacency rows, the features and the bias. -/
def hidden (a : Vec F S1024x4096 .f32) (f : Vec F S4096x256 .bf16) (b : Vec F S1x128 .f32) : Vec F S1024x256 .f32 :=
  beside (n := 1024) (k0_pay11 a f b) (k0_pay12 a f b)

/-- The two rows of scores, from the column sum, the hidden rows and the bilinear form's operands. -/
def scores (acc : Vec F S1x128 .f32) (w : Vec F S128x128 .f32) (p : Vec F S1x128 .f32) (bb : Vec F S1x1 .f32)
    (h : Vec F S4096x256 .f32) : Vec F S2x4096 .f32 := fun y =>
  if (y 0).val = 0 then
    k0_pay4 acc w bb (fun x => h (ix2 (x 0) ⟨(x 1).val, by have : (x 1).val < 128 := (x 1).isLt; omega⟩)) (ix2 0 (y 1))
  else
    k0_pay5 acc w p bb (fun x => h (ix2 (x 0) ⟨128 + (x 1).val, by have : (x 1).val < 128 := (x 1).isLt; omega⟩)) (ix2 0 (y 1))

/-! ## Reading the body's stores back -/

/-- Zero offsets, as the library's lemmas spell them. -/
theorem zeros : (![0, 0] : Fin 2 → Nat) = fun _ => 0 := funext fun a => by fin_cases a <;> rfl

section
variable {sig : RefSig} {κ : Kind} {sp : Space} {n : Nat} {e : EltTy} {Val : EltTy → Type}

/-- A load of everything reads the contents. -/
theorem load_whole {s : Shape} (v : View sig κ sp s e) {off : Fin s.rank → Nat} (h : off = fun _ => 0) (inb)
    (f : v.ty.Contents Val) : v.readAt Val (Rect.unit off s.size inb).toLoadRect f = v.read Val f :=
  View.ld_unit_zero h inb _

/-- A store of everything leaves its payload. -/
theorem store_whole {s : Shape} (v : View sig κ sp s e) {off : Fin s.rank → Nat} (h : off = fun _ => 0) (inb)
    (f : v.ty.Contents Val) (w : s.Idx → Val e) : v.read Val (v.writes Val f [⟨Rect.unit off s.size inb, w⟩]) = w := by
  funext y
  refine View.read_writes_cons_unit_of_mem v f inb w [] y y rfl fun a => ?_
  exact (Nat.zero_add _).symm.trans (congrArg (· + (y a).val) (congrFun h a).symm)

/-- A load of the left half of a matrix of 256 columns. -/
theorem load_left (X : Vec F S4096x256 .f32) (inb) :
    View.ld X (Rect.unit (s := S4096x256) ![0, 0] S4096x128.size inb)
      = fun x => X (ix2 (x 0) ⟨(x 1).val, by have : (x 1).val < 128 := (x 1).isLt; omega⟩) :=
  funext fun x => View.ld_unit_apply_of X _ _ inb x _
    (Fin.forall_fin_two.mpr ⟨(Nat.zero_add _).symm, (Nat.zero_add _).symm⟩)

/-- A load of the right half. -/
theorem load_right (X : Vec F S4096x256 .f32) (inb) :
    View.ld X (Rect.unit (s := S4096x256) ![0, 128] S4096x128.size inb)
      = fun x => X (ix2 (x 0) ⟨128 + (x 1).val, by have : (x 1).val < 128 := (x 1).isLt; omega⟩) :=
  funext fun x => View.ld_unit_apply_of X _ _ inb x _
    (Fin.forall_fin_two.mpr ⟨(Nat.zero_add _).symm, rfl⟩)

/-- The scores, where the two operands of the products are loads of the two halves. -/
theorem scores_of (acc : Vec F S1x128 .f32) (w : Vec F S128x128 .f32) (p : Vec F S1x128 .f32) (bb : Vec F S1x1 .f32)
    (X h : Vec F S4096x256 .f32) (e : X = h) (il ir) (y : S2x4096.Idx) :
    (if (y 0).val = 0 then
      k0_pay4 acc w bb (View.ld X (Rect.unit (s := S4096x256) ![0, 0] S4096x128.size il)) (ix2 0 (y 1))
    else k0_pay5 acc w p bb (View.ld X (Rect.unit (s := S4096x256) ![0, 128] S4096x128.size ir)) (ix2 0 (y 1)))
      = scores acc w p bb h y := by
  subst e
  rw [load_left X il, load_right X ir]
  rfl

/-- Two stores of the left and then of the right half of a matrix of 256 columns leave the two halves side by side. -/
theorem read_halves (v : View sig κ sp (⟨2, ![n, 256]⟩ : Shape) e) (f : v.ty.Contents (Elt F))
    (a b : Vec F ⟨2, ![n, 128]⟩ e) (ia ib) :
    v.read (Elt F) (v.writes (Elt F) f
      [⟨Rect.unit (s := ⟨2, ![n, 256]⟩) ![0, 128] ![n, 128] ib, b⟩, ⟨Rect.unit (s := ⟨2, ![n, 256]⟩) ![0, 0] ![n, 128] ia, a⟩])
      = beside a b := by
  funext y
  unfold beside
  by_cases h : (y 1).val < 128
  · rw [dif_pos h, View.read_writes_cons_unit_of_not_mem v f ib b _ y rfl 1 (Or.inl h)]
    exact View.read_writes_cons_unit_of_mem v f ia a _ y (ix2 (y 0) ⟨(y 1).val, h⟩) rfl
      (Fin.forall_fin_two.mpr ⟨(Nat.zero_add _).symm, (Nat.zero_add _).symm⟩)
  · rw [dif_neg h]
    refine View.read_writes_cons_unit_of_mem v f ib b _ y (ix2 (y 0) ⟨(y 1).val - 128, _⟩) rfl
      (Fin.forall_fin_two.mpr ⟨(Nat.zero_add _).symm, ?_⟩)
    show (y 1).val = 128 + ((y 1).val - 128)
    omega

/-- The same two stores into the 1024 rows from `o` on leave those rows replaced and the others alone. -/
theorem read_rows (v : View sig κ sp S4096x256 .f32) (f : v.ty.Contents (Elt F)) (a b : Vec F S1024x128 .f32) (o : Nat)
    (oa ob : Fin 2 → Nat) (ha : oa = ![o, 0]) (hb : ob = ![o, 128]) (ia ib) :
    v.read (Elt F) (v.writes (Elt F) f
      [⟨Rect.unit (s := S4096x256) ob S1024x128.size ib, b⟩, ⟨Rect.unit (s := S4096x256) oa S1024x128.size ia, a⟩])
      = putRows o (beside (n := 1024) a b) (v.read (Elt F) f) := by
  funext y
  unfold putRows
  by_cases hr : o ≤ (y 0).val ∧ (y 0).val < o + 1024
  · rw [dif_pos hr]
    unfold beside
    by_cases h : (y 1).val < 128
    · rw [dif_pos (show ((ix2 (⟨(y 0).val - o, _⟩ : Fin 1024) (y 1) : S1024x256.Idx) 1).val < 128 from h),
        View.read_writes_cons_unit_of_not_mem v f ib b _ y hb 1 (Or.inl h)]
      refine View.read_writes_cons_unit_of_mem v f ia a _ y (ix2 ⟨(y 0).val - o, by omega⟩ ⟨(y 1).val, h⟩) ha
        (Fin.forall_fin_two.mpr ⟨?_, (Nat.zero_add _).symm⟩)
      show (y 0).val = o + ((y 0).val - o)
      omega
    · rw [dif_neg (show ¬((ix2 (⟨(y 0).val - o, _⟩ : Fin 1024) (y 1) : S1024x256.Idx) 1).val < 128 from h)]
      have h1 : (y 1).val < 256 := (y 1).isLt
      refine View.read_writes_cons_unit_of_mem v f ib b _ y (ix2 ⟨(y 0).val - o, by omega⟩ ⟨(y 1).val - 128, by omega⟩) hb
        (Fin.forall_fin_two.mpr ⟨?_, ?_⟩)
      · show (y 0).val = o + ((y 0).val - o)
        omega
      · show (y 1).val = 128 + ((y 1).val - 128)
        omega
  · have h0 : (y 0).val < o ∨ o + 1024 ≤ (y 0).val := by omega
    rw [dif_neg hr, View.read_writes_cons_unit_of_not_mem v f ib b _ y hb 0 h0,
      View.read_writes_cons_unit_of_not_mem v f ia a _ y ha 0 h0, View.writes_nil]

/-- Two stores of one row each leave the two rows. -/
theorem read_two_rows (v : View sig κ sp S2x4096 .f32) (f : v.ty.Contents (Elt F)) (a b : Vec F S1x4096 .f32) (ia ib)
    (y : S2x4096.Idx) :
    v.read (Elt F) (v.writes (Elt F) f
      [⟨Rect.unit (s := S2x4096) ![1, 0] S1x4096.size ib, b⟩, ⟨Rect.unit (s := S2x4096) ![0, 0] S1x4096.size ia, a⟩]) y
      = if (y 0).val = 0 then a (ix2 0 (y 1)) else b (ix2 0 (y 1)) := by
  by_cases h : (y 0).val = 0
  · rw [if_pos h, View.read_writes_cons_unit_of_not_mem v f ib b _ y rfl 0 (Or.inl (by rw [h]; exact Nat.zero_lt_one))]
    exact View.read_writes_cons_unit_of_mem v f ia a _ y (ix2 0 (y 1)) rfl
      (Fin.forall_fin_two.mpr ⟨h, (Nat.zero_add _).symm⟩)
  · rw [if_neg h]
    have h2 : (y 0).val < 2 := (y 0).isLt
    refine View.read_writes_cons_unit_of_mem v f ib b _ y (ix2 0 (y 1)) rfl
      (Fin.forall_fin_two.mpr ⟨?_, (Nat.zero_add _).symm⟩)
    show (y 0).val = 1 + 0
    omega

end

end Cert.KernelIdeal.Disc

end
-- ==== Proof.Runs.lean ====
/-
  The three ways the body runs: at the first grid point, at a middle one and at the last. Each theorem says what the
  body leaves in its output and in its three scratches, as a function of what it was handed.
-/
module

public import proofs.«01_k».proof.Proof.Setup

@[expose] public section

set_option maxRecDepth 16384

noncomputable section

namespace Cert.KernelIdeal.Disc

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight inputs' memrefs, each holding its block. -/
def inputs (c : Dev nD)
    (arg1 : Memref sig .tc .vmem S4096x512 .f32) (arg2 : Memref sig .tc .vmem S4096x512 .f32)
    (arg3 : Memref sig .tc .vmem S512x128 .f32) (arg4 : Memref sig .tc .vmem S1x128 .f32)
    (arg5 : Memref sig .tc .vmem S1024x4096 .f32) (arg6 : Memref sig .tc .vmem S128x128 .f32)
    (arg7 : Memref sig .tc .vmem S1x128 .f32) (arg8 : Memref sig .tc .vmem S1x1 .f32)
    (x0 : Vec F S4096x512 .f32) (x1 : Vec F S4096x512 .f32) (x2 : Vec F S512x128 .f32) (x3 : Vec F S1x128 .f32)
    (x4 : Vec F S1024x4096 .f32) (x5 : Vec F S128x128 .f32) (x6 : Vec F S1x128 .f32) (x7 : Vec F S1x1 .f32) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7)

set_option maxHeartbeats 1000000 in
/-- At the first point the features and the column sum are set, and the point's hidden rows are filled in. -/
theorem run_first (c : Dev nD) (i : grid0.Coords)
    (arg1 : Memref sig .tc .vmem S4096x512 .f32) (harg1 : arg1.IsWhole) (arg2 : Memref sig .tc .vmem S4096x512 .f32)
    (harg2 : arg2.IsWhole) (arg3 : Memref sig .tc .vmem S512x128 .f32) (harg3 : arg3.IsWhole)
    (arg4 : Memref sig .tc .vmem S1x128 .f32) (harg4 : arg4.IsWhole) (arg5 : Memref sig .tc .vmem S1024x4096 .f32)
    (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x1 .f32)
    (harg8 : arg8.IsWhole) (arg9 : Memref sig .tc .vmem S2x4096 .f32) (harg9 : arg9.IsWhole)
    (arg10 : Memref sig .tc .vmem S4096x256 .bf16) (harg10 : arg10.IsWhole)
    (arg11 : Memref sig .tc .vmem S4096x256 .f32) (harg11 : arg11.IsWhole) (arg12 : Memref sig .tc .vmem S1x128 .f32)
    (harg12 : arg12.IsWhole)
    (hc0 : atFirst i) (hc2 : ¬pastFirst i) (hc3 : ¬atLast i)
    (x0 : Vec F S4096x512 .f32) (x1 : Vec F S4096x512 .f32) (x2 : Vec F S512x128 .f32) (x3 : Vec F S1x128 .f32)
    (x4 : Vec F S1024x4096 .f32) (x5 : Vec F S128x128 .f32) (x6 : Vec F S1x128 .f32) (x7 : Vec F S1x1 .f32)
    (d8 : Vec F S2x4096 .f32) (d11 : Vec F S4096x256 .f32)
    (E : Set ℕ) (K : PUnit → sProp 𝕄) :
    iprop(inputs c arg1 arg2 arg3 arg4 arg5 arg6 arg7 arg8 x0 x1 x2 x3 x4 x5 x6 x7
        ∗ owns (c : Thread nD τ) arg9 fullShare d8 ∗ (∃ d, owns (c : Thread nD τ) arg10 fullShare d) ∗ owns (c : Thread nD τ) arg11 fullShare d11 ∗ (∃ d, owns (c : Thread nD τ) arg12 fullShare d)
        ∗ (iprop(inputs c arg1 arg2 arg3 arg4 arg5 arg6 arg7 arg8 x0 x1 x2 x3 x4 x5 x6 x7
            ∗ owns (c : Thread nD τ) arg9 fullShare d8 ∗ owns (c : Thread nD τ) arg10 fullShare (feats x0 x1 x2)
            ∗ owns (c : Thread nD τ) arg11 fullShare (putRows (1024 * (i 0).val) (hidden x4 (feats x0 x1 x2) x3) d11)
            ∗ owns (c : Thread nD τ) arg12 fullShare (k0_pay14 x4 (feats x0 x1 x2) x3)) -∗ K ⟨⟩))
      ⊢ wp frame (wpE (defs₀ (F := F)) Variants.none c none) E
          (cc0__dgi_kernel i arg1 harg1 arg2 harg2 arg3 harg3 arg4 harg4 arg5 harg5 arg6 harg6 arg7 harg7 arg8 harg8 arg9 harg9 arg10 harg10 arg11 harg11 arg12 harg12) K := by
  simp only [cc0__dgi_kernel_eq_skeleton]; unfold cc0__dgi_kernel_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩⟩, ⟨%f8, %hf8, H8⟩, ⟨%ds0, %fs0, -, HS0⟩, ⟨%fs1, %hfs1, HS1⟩,
    ⟨%ds2, %fs2, -, HS2⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hf8; obtain rfl := harg11.eq_unread hfs1
  sl_exec (disch := first | sl_exact hc0 | sl_exact hc2 | sl_exact hc3)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; · ipureintro; exact harg9.read_unread _
    iexact H8
  isplitl [HS0]
  · iexists _; isplitr; swap; · iexact HS0
    ipureintro
    sl_unfold_words
    rw [load_whole arg1.view zeros, load_whole arg2.view zeros, load_whole arg3.view zeros, harg1.read_unread,
      harg2.read_unread, harg3.read_unread]
    exact read_halves arg10.view _ _ _ _ _
  isplitl [HS1]
  · iexists _; isplitr; swap; · iexact HS1
    ipureintro
    sl_unfold_words
    rw [load_whole arg5.view zeros, View.readCov, load_whole arg10.view zeros, read_halves arg10.view,
      load_whole arg1.view zeros, load_whole arg2.view zeros, load_whole arg3.view zeros, harg1.read_unread,
      harg2.read_unread, harg3.read_unread, load_whole arg4.view zeros, harg5.read_unread,
      harg4.read_unread]
    exact (read_rows arg11.view _ _ _ _ _ _ (k0_off1_eq i) (k0_off2_eq i) _ _).trans
      (congrArg _ (harg11.read_unread d11))
  iexists _; isplitr; swap; · iexact HS2
  ipureintro
  sl_unfold_words
  rw [load_whole arg5.view zeros, View.readCov, load_whole arg10.view zeros, read_halves arg10.view,
      load_whole arg1.view zeros, load_whole arg2.view zeros, load_whole arg3.view zeros, harg1.read_unread,
      harg2.read_unread, harg3.read_unread, load_whole arg4.view zeros, harg5.read_unread,
    harg4.read_unread]
  exact store_whole arg12.view zeros _ _ _

set_option maxHeartbeats 1000000 in
/-- At a middle point the features stay, the point's hidden rows are filled in and their column sum is added. -/
theorem run_middle (c : Dev nD) (i : grid0.Coords)
    (arg1 : Memref sig .tc .vmem S4096x512 .f32) (harg1 : arg1.IsWhole) (arg2 : Memref sig .tc .vmem S4096x512 .f32)
    (harg2 : arg2.IsWhole) (arg3 : Memref sig .tc .vmem S512x128 .f32) (harg3 : arg3.IsWhole)
    (arg4 : Memref sig .tc .vmem S1x128 .f32) (harg4 : arg4.IsWhole) (arg5 : Memref sig .tc .vmem S1024x4096 .f32)
    (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x1 .f32)
    (harg8 : arg8.IsWhole) (arg9 : Memref sig .tc .vmem S2x4096 .f32) (harg9 : arg9.IsWhole)
    (arg10 : Memref sig .tc .vmem S4096x256 .bf16) (harg10 : arg10.IsWhole)
    (arg11 : Memref sig .tc .vmem S4096x256 .f32) (harg11 : arg11.IsWhole) (arg12 : Memref sig .tc .vmem S1x128 .f32)
    (harg12 : arg12.IsWhole)
    (hc0 : ¬atFirst i) (hc2 : pastFirst i) (hc3 : ¬atLast i)
    (x0 : Vec F S4096x512 .f32) (x1 : Vec F S4096x512 .f32) (x2 : Vec F S512x128 .f32) (x3 : Vec F S1x128 .f32)
    (x4 : Vec F S1024x4096 .f32) (x5 : Vec F S128x128 .f32) (x6 : Vec F S1x128 .f32) (x7 : Vec F S1x1 .f32)
    (d8 : Vec F S2x4096 .f32) (ft : Vec F S4096x256 .bf16) (d11 : Vec F S4096x256 .f32) (acc : Vec F S1x128 .f32)
    (E : Set ℕ) (K : PUnit → sProp 𝕄) :
    iprop(inputs c arg1 arg2 arg3 arg4 arg5 arg6 arg7 arg8 x0 x1 x2 x3 x4 x5 x6 x7
        ∗ owns (c : Thread nD τ) arg9 fullShare d8 ∗ owns (c : Thread nD τ) arg10 fullShare ft ∗ owns (c : Thread nD τ) arg11 fullShare d11 ∗ owns (c : Thread nD τ) arg12 fullShare acc
        ∗ (iprop(inputs c arg1 arg2 arg3 arg4 arg5 arg6 arg7 arg8 x0 x1 x2 x3 x4 x5 x6 x7
            ∗ owns (c : Thread nD τ) arg9 fullShare d8 ∗ owns (c : Thread nD τ) arg10 fullShare ft
            ∗ owns (c : Thread nD τ) arg11 fullShare (putRows (1024 * (i 0).val) (hidden x4 ft x3) d11)
            ∗ owns (c : Thread nD τ) arg12 fullShare (k0_pay1 (k0_pay13 x4 ft x3) acc)) -∗ K ⟨⟩))
      ⊢ wp frame (wpE (defs₀ (F := F)) Variants.none c none) E
          (cc0__dgi_kernel i arg1 harg1 arg2 harg2 arg3 harg3 arg4 harg4 arg5 harg5 arg6 harg6 arg7 harg7 arg8 harg8 arg9 harg9 arg10 harg10 arg11 harg11 arg12 harg12) K := by
  simp only [cc0__dgi_kernel_eq_skeleton]; unfold cc0__dgi_kernel_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩⟩, ⟨%f8, %hf8, H8⟩, ⟨%fs0, %hfs0, HS0⟩, ⟨%fs1, %hfs1, HS1⟩,
    ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg9.eq_unread hf8; obtain rfl := harg10.eq_unread hfs0; obtain rfl := harg11.eq_unread hfs1
  obtain rfl := harg12.eq_unread hfs2
  sl_exec (disch := first | sl_exact hc0 | sl_exact hc2 | sl_exact hc3)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; · ipureintro; exact harg9.read_unread _
    iexact H8
  isplitl [HS0]
  · iexists _; isplitr; · ipureintro; exact harg10.read_unread _
    iexact HS0
  isplitl [HS1]
  · iexists _; isplitr; swap; · iexact HS1
    ipureintro
    sl_unfold_words
    rw [load_whole arg5.view zeros, load_whole arg10.view zeros, load_whole arg4.view zeros, harg5.read_unread,
      harg10.read_unread, harg4.read_unread]
    exact (read_rows arg11.view _ _ _ _ _ _ (k0_off1_eq i) (k0_off2_eq i) _ _).trans
      (congrArg _ (harg11.read_unread d11))
  iexists _; isplitr; swap; · iexact HS2
  ipureintro
  sl_unfold_words
  rw [load_whole arg5.view zeros, load_whole arg10.view zeros, load_whole arg4.view zeros, harg5.read_unread,
    harg10.read_unread, harg4.read_unread, load_whole arg12.view zeros, harg12.read_unread]
  exact store_whole arg12.view zeros _ _ _

set_option maxHeartbeats 1000000 in
/-- At the last point the body does what it does at a middle one and then writes the scores, from the whole column sum and
all the hidden rows. -/
theorem run_last (c : Dev nD) (i : grid0.Coords)
    (arg1 : Memref sig .tc .vmem S4096x512 .f32) (harg1 : arg1.IsWhole) (arg2 : Memref sig .tc .vmem S4096x512 .f32)
    (harg2 : arg2.IsWhole) (arg3 : Memref sig .tc .vmem S512x128 .f32) (harg3 : arg3.IsWhole)
    (arg4 : Memref sig .tc .vmem S1x128 .f32) (harg4 : arg4.IsWhole) (arg5 : Memref sig .tc .vmem S1024x4096 .f32)
    (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x1 .f32)
    (harg8 : arg8.IsWhole) (arg9 : Memref sig .tc .vmem S2x4096 .f32) (harg9 : arg9.IsWhole)
    (arg10 : Memref sig .tc .vmem S4096x256 .bf16) (harg10 : arg10.IsWhole)
    (arg11 : Memref sig .tc .vmem S4096x256 .f32) (harg11 : arg11.IsWhole) (arg12 : Memref sig .tc .vmem S1x128 .f32)
    (harg12 : arg12.IsWhole)
    (hc0 : ¬atFirst i) (hc2 : pastFirst i) (hc3 : atLast i)
    (x0 : Vec F S4096x512 .f32) (x1 : Vec F S4096x512 .f32) (x2 : Vec F S512x128 .f32) (x3 : Vec F S1x128 .f32)
    (x4 : Vec F S1024x4096 .f32) (x5 : Vec F S128x128 .f32) (x6 : Vec F S1x128 .f32) (x7 : Vec F S1x1 .f32)
    (ft : Vec F S4096x256 .bf16) (d11 : Vec F S4096x256 .f32) (acc : Vec F S1x128 .f32)
    (E : Set ℕ) (K : PUnit → sProp 𝕄) :
    iprop(inputs c arg1 arg2 arg3 arg4 arg5 arg6 arg7 arg8 x0 x1 x2 x3 x4 x5 x6 x7
        ∗ (∃ d, owns (c : Thread nD τ) arg9 fullShare d) ∗ owns (c : Thread nD τ) arg10 fullShare ft ∗ owns (c : Thread nD τ) arg11 fullShare d11 ∗ owns (c : Thread nD τ) arg12 fullShare acc
        ∗ (iprop(inputs c arg1 arg2 arg3 arg4 arg5 arg6 arg7 arg8 x0 x1 x2 x3 x4 x5 x6 x7
            ∗ owns (c : Thread nD τ) arg9 fullShare (scores (k0_pay1 (k0_pay13 x4 ft x3) acc) x5 x6 x7 (putRows (1024 * (i 0).val) (hidden x4 ft x3) d11))
            ∗ owns (c : Thread nD τ) arg10 fullShare ft
            ∗ owns (c : Thread nD τ) arg11 fullShare (putRows (1024 * (i 0).val) (hidden x4 ft x3) d11)
            ∗ owns (c : Thread nD τ) arg12 fullShare (k0_pay1 (k0_pay13 x4 ft x3) acc)) -∗ K ⟨⟩))
      ⊢ wp frame (wpE (defs₀ (F := F)) Variants.none c none) E
          (cc0__dgi_kernel i arg1 harg1 arg2 harg2 arg3 harg3 arg4 harg4 arg5 harg5 arg6 harg6 arg7 harg7 arg8 harg8 arg9 harg9 arg10 harg10 arg11 harg11 arg12 harg12) K := by
  simp only [cc0__dgi_kernel_eq_skeleton]; unfold cc0__dgi_kernel_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩⟩, ⟨%d8, %f8, -, H8⟩, ⟨%fs0, %hfs0, HS0⟩, ⟨%fs1, %hfs1, HS1⟩,
    ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  obtain rfl := harg10.eq_unread hfs0; obtain rfl := harg11.eq_unread hfs1
  obtain rfl := harg12.eq_unread hfs2
  sl_exec (disch := first | sl_exact hc0 | sl_exact hc2 | sl_exact hc3)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr; swap; · iexact H8
    ipureintro
    sl_unfold_words
    rw [View.readCov, load_whole arg12.view zeros, store_whole arg12.view zeros, load_whole arg12.view zeros,
      load_whole arg5.view zeros, load_whole arg10.view zeros, load_whole arg4.view zeros, load_whole arg6.view zeros,
      load_whole arg7.view zeros, load_whole arg8.view zeros, harg5.read_unread,
      harg10.read_unread, harg4.read_unread, harg6.read_unread, harg7.read_unread, harg8.read_unread,
      harg12.read_unread]
    exact funext fun y => (read_two_rows arg9.view _ _ _ _ _ y).trans (scores_of _ _ _ _ _ _
      ((read_rows arg11.view _ _ _ _ _ _ (k0_off1_eq i) (k0_off2_eq i) _ _).trans
        (congrArg _ (harg11.read_unread d11))) _ _ y)
  isplitl [HS0]
  · iexists _; isplitr; · ipureintro; exact harg10.read_unread _
    iexact HS0
  isplitl [HS1]
  · iexists _; isplitr; swap; · iexact HS1
    ipureintro
    sl_unfold_words
    rw [load_whole arg5.view zeros, load_whole arg10.view zeros, load_whole arg4.view zeros, harg5.read_unread,
      harg10.read_unread, harg4.read_unread]
    exact (read_rows arg11.view _ _ _ _ _ _ (k0_off1_eq i) (k0_off2_eq i) _ _).trans
      (congrArg _ (harg11.read_unread d11))
  iexists _; isplitr; swap; · iexact HS2
  ipureintro
  sl_unfold_words
  rw [load_whole arg5.view zeros, load_whole arg10.view zeros, load_whole arg4.view zeros, harg5.read_unread,
    harg10.read_unread, harg4.read_unread, load_whole arg12.view zeros, harg12.read_unread]
  exact store_whole arg12.view zeros _ _ _

end Cert.KernelIdeal.Disc

end
-- ==== Proof.Region.lean ====
/-
  The launch of the ideal kernel: what the scratches hold between grid points, the body's obligation at every point, the
  run, and the frame that follows from it.
-/
module

public import proofs.«01_k».proof.Proof.Runs
public import Idealize.ShloMosaic.Lib.Pipeline.FrameBody
public import Idealize.ShloMosaic.Lib.Pipeline.FrameSuffix

@[expose] public section

set_option maxRecDepth 16384

noncomputable section

namespace Cert.KernelIdeal.Disc

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch computes -/

/-- The grid point numbered `n`. -/
abbrev pt (n : Nat) (h : n < 4) : Fin cfg0.N := ⟨n, Nat.lt_of_lt_of_eq h N_0.symm⟩

/-- The first point and the last. -/
abbrev p0 : Fin cfg0.N := pt 0 (by decide)
abbrev p3 : Fin cfg0.N := pt 3 (by decide)

/-- The features, computed at the first point. -/
def featV (c : Dev nD) : Vec F S4096x256 .bf16 :=
  feats (iblk m c 0 p0) (iblk m c 1 p0) (iblk m c 2 p0)

/-- The hidden rows of point `t`. -/
def rowsV (c : Dev nD) (t : Fin cfg0.N) : Vec F S1024x256 .f32 :=
  hidden (iblk m c 4 t) (featV m c) (iblk m c 3 t)

/-- The column sum after point `n`. -/
def accV (c : Dev nD) : (n : Nat) → n < 4 → Vec F S1x128 .f32
  | 0, h => k0_pay14 (iblk m c 4 (pt 0 h)) (featV m c) (iblk m c 3 (pt 0 h))
  | n + 1, h => k0_pay1 (k0_pay13 (iblk m c 4 (pt (n + 1) h)) (featV m c) (iblk m c 3 (pt (n + 1) h)))
      (accV c n (Nat.lt_of_succ_lt h))

/-- All the hidden rows: row `r` is row `r % 1024` of point `r / 1024`. -/
def hidV (c : Dev nD) : Vec F S4096x256 .f32 := fun y =>
  rowsV m c (pt ((y 0).val / 1024) (by have : (y 0).val < 4096 := (y 0).isLt; omega))
    (ix2 ⟨(y 0).val % 1024, Nat.mod_lt _ (by decide)⟩ (y 1))

/-- The scores. -/
def outV (c : Dev nD) : Vec F S2x4096 .f32 :=
  scores (accV m c 3 (by decide)) (iblk m c 5 p3) (iblk m c 6 p3)
    (iblk m c 7 p3) (hidV m c)

/-- A matrix that holds the hidden rows of the points before `t` holds those of the points up to `t` once the rows of
    point `t` are put in. -/
theorem putRows_hidV (c : Dev nD) (t : Fin cfg0.N) (d : Vec F S4096x256 .f32) (o : Nat) (ho : o = 1024 * t.val)
    (h : ∀ y : S4096x256.Idx, (y 0).val < 1024 * t.val → d y = hidV m c y) :
    ∀ y : S4096x256.Idx, (y 0).val < 1024 * (t.val + 1) → putRows o (rowsV m c t) d y = hidV m c y := by
  intro y hy
  subst ho
  unfold putRows
  by_cases hr : 1024 * t.val ≤ (y 0).val ∧ (y 0).val < 1024 * t.val + 1024
  · rw [dif_pos hr]
    have e1 : (y 0).val / 1024 = t.val := by omega
    have e2 : (y 0).val % 1024 = (y 0).val - 1024 * t.val := by omega
    unfold hidV
    congr 1
    · congr 1
      exact Fin.ext e1.symm
    · exact congrArg (fun a => ix2 a (y 1)) (Fin.ext e2.symm)
  · rw [dif_neg hr]
    exact h y (by omega)

/-! ## The invariant and the proof data -/

/-- Between points: before the first one the scratches hold anything; after point `n` they hold the features, the hidden
    rows of the points so far, and the column sum of those. -/
def inv (c : Dev nD) : (n : ℕ) → n ≤ 4 → sProp 𝕄
  | 0, _ => Pipeline.ΦA spec0 c
  | n + 1, hn => iprop(iprop(owns (c : Thread nD τ) scF fullShare (featV m c)
      ∗ (∃ d, ⌜∀ y : S4096x256.Idx, (y 0).val < 1024 * (n + 1) → d y = hidV m c y⌝ ∗ owns (c : Thread nD τ) scH fullShare d)
      ∗ owns (c : Thread nD τ) scA fullShare (accV m c n hn)) ∗ (∃ r, prngReg c r))

/-- The proof data of the launch: the arrays as the region finds them; after the body each input's buffer at its block and
    the output's at the scores; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV m c
  Φ t := inv m c t.val (Nat.le_of_lt_succ (Nat.lt_of_lt_of_eq t.isLt (congrArg (· + 1) N_0)))
  q _ := fullShare
  owed _ := 0

/-- The invariant after point `t`, opened. -/
theorem inv_succ (c : Dev nD) (n : ℕ) (hn : n < 4) :
    (dats m 0 c).Φ (pt n hn).succ = (iprop(iprop(owns (c : Thread nD τ) scF fullShare (featV m c)
      ∗ (∃ d, ⌜∀ y : S4096x256.Idx, (y 0).val < 1024 * (n + 1) → d y = hidV m c y⌝ ∗ owns (c : Thread nD τ) scH fullShare d)
      ∗ owns (c : Thread nD τ) scA fullShare (accV m c n hn)) ∗ (∃ r, prngReg c r)) : sProp 𝕄) := rfl

/-- The arrays of the proof data are what the region finds. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
/-- What the proof data say of the output's buffer. -/
theorem after_8 (c : Dev nD) (t : Fin cfg0.N) : (dats m 0 c).after 8 t = outV m c := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d

/-! ## The body's obligation -/

/-- The inputs' buffers after the body, from the assertion the runs use. -/
theorem leaves_inputs (c : Dev nD) (t : Fin cfg0.N) :
    inputs c (sm0 t) (sm1 t) (sm2 t) (sm3 t) (sm4 t) (sm5 t) (sm6 t) (sm7 t)
        (iblk m c 0 t) (iblk m c 1 t) (iblk m c 2 t) (iblk m c 3 t) (iblk m c 4 t) (iblk m c 5 t) (iblk m c 6 t) (iblk m c 7 t)
      ⊢ (iprop((dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t
        ∗ (dats m 0 c).leavesExact 6 t ∗ (dats m 0 c).leavesExact 7 t) : sProp 𝕄) := by
  rw [show (dats m 0 c).leavesExact 0 t = owns (c : Thread nD τ) (sm0 t) fullShare (iblk m c 0 t) from by
    rw [← after_0 m c t]]
  rw [show (dats m 0 c).leavesExact 1 t = owns (c : Thread nD τ) (sm1 t) fullShare (iblk m c 1 t) from by
    rw [← after_1 m c t]]
  rw [show (dats m 0 c).leavesExact 2 t = owns (c : Thread nD τ) (sm2 t) fullShare (iblk m c 2 t) from by
    rw [← after_2 m c t]]
  rw [show (dats m 0 c).leavesExact 3 t = owns (c : Thread nD τ) (sm3 t) fullShare (iblk m c 3 t) from by
    rw [← after_3 m c t]]
  rw [show (dats m 0 c).leavesExact 4 t = owns (c : Thread nD τ) (sm4 t) fullShare (iblk m c 4 t) from by
    rw [← after_4 m c t]]
  rw [show (dats m 0 c).leavesExact 5 t = owns (c : Thread nD τ) (sm5 t) fullShare (iblk m c 5 t) from by
    rw [← after_5 m c t]]
  rw [show (dats m 0 c).leavesExact 6 t = owns (c : Thread nD τ) (sm6 t) fullShare (iblk m c 6 t) from by
    rw [← after_6 m c t]]
  rw [show (dats m 0 c).leavesExact 7 t = owns (c : Thread nD τ) (sm7 t) fullShare (iblk m c 7 t) from by
    rw [← after_7 m c t]]
  exact .rfl

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d))
    ∗ (∃ d, owns (c : Thread nD τ) (sm8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Where the scores are not written, the output's buffer is left as it was found. -/
theorem leaves_out_idle (c : Dev nD) (t : Fin cfg0.N) (h : ¬ t.val = 3) :
    (dats m 0 c).leavesExact 8 t
      = (iprop(∃ d, owns (c : Thread nD τ) (sm8 t) fullShare ((dats m 0 c).before 8 t d)) : sProp 𝕄) := by
  have ht : t.val < 4 := Nat.lt_of_lt_of_eq t.isLt N_0
  have hl : ¬ k0_cond4 (grid0.coords t) = 1#1 := fun e => h ((atLast_iff t).mp e)
  refine Dat.leavesExact_idle _ 8 t ?_ ?_
  · show (!(k0_cond4 (grid0.coords t) == 1#1)) = true
    rw [beq_eq_false_iff_ne.mpr hl]; rfl
  · rw [Bool.eq_false_iff]
    intro e
    have := (flush0_8 t).mp e
    omega

/-- Where they are, it holds them. -/
theorem leaves_out_last (c : Dev nD) (t : Fin cfg0.N) (h : t.val = 3) :
    (dats m 0 c).leavesExact 8 t = (owns (c : Thread nD τ) (sm8 t) fullShare (outV m c) : sProp 𝕄) := by
  have hi : cfg0.idle 8 (cfg0.grid.coords t) = false := by
    show (!(k0_cond4 (grid0.coords t) == 1#1)) = false
    rw [show k0_cond4 (grid0.coords t) = 1#1 from (atLast_iff t).mpr h]; rfl
  rw [← after_8 m c t]
  unfold Dat.leavesExact
  rw [hi]

/-- The obligation at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  have hN : t.val < 4 := Nat.lt_of_lt_of_eq t.isLt N_0
  unfold bodyPre bodyPost bodyAt0
  simp only [before_0, before_1, before_2, before_3, before_4, before_5, before_6, before_7]
  obtain rfl : t = p0 := Fin.ext h
  rw [leaves_out_idle m c _ (by decide)]
  rw [show (dats m 0 c).Φ p0.castSucc = (Pipeline.ΦA spec0 c : sProp 𝕄) from rfl, scratches_eq, inv_succ m c 0]
  iintro ⟨⟨⟨HF, HH, HA⟩, Hg⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩⟩
  icases HH with ⟨%dH, HH⟩
  iapply (run_first c (grid0.coords p0) _ _ _ _ _ _ _ _ _ _ _ _ _ _ _ _ _ _ _ _ _ _ _ _
    ((atFirst_iff _).mpr rfl) (fun e => absurd ((pastFirst_iff _).mp e) (by decide)) (fun e => absurd ((atLast_iff _).mp e) (by decide))
      (iblk m c 0 p0) (iblk m c 1 p0) (iblk m c 2 p0) (iblk m c 3 p0)
      (iblk m c 4 p0) (iblk m c 5 p0) (iblk m c 6 p0) (iblk m c 7 p0)
      _ dH Set.univ _)
  isplitl [H0 H1 H2 H3 H4 H5 H6 H7]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [HF]; · iexact HF
  isplitl [HH]; · iexact HH
  isplitl [HA]; · iexact HA
  iintro ⟨Hin, H8, HF, HH, HA⟩
  ihave Hin := (leaves_inputs m c p0) $$ Hin
  icases Hin with ⟨H0, H1, H2, H3, H4, H5, H6, H7⟩
  isplitl [HF HH HA Hg]
  · isplitl [HF HH HA]
    · isplitl [HF]; · iexact HF
      isplitl [HH]
      · iexists _; isplitr; swap; · iexact HH
        ipureintro
        exact putRows_hidV m c p0 dH _ (by rw [coord_eq]) (fun y hy => absurd hy (Nat.not_lt_zero _))
      iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The obligation at a middle point. -/
theorem sound_middle (c : Dev nD) (t : Fin cfg0.N) (h : 1 ≤ t.val) (h3 : ¬ t.val = 3) :
    bodyPre m c t ⊢ wp frame (wpE (defs₀ (F := F)) Variants.none c none) Set.univ (bodyAt0 t) (fun _ => bodyPost m c t) := by
  have hN : t.val < 4 := Nat.lt_of_lt_of_eq t.isLt N_0
  unfold bodyPre bodyPost bodyAt0
  simp only [before_0, before_1, before_2, before_3, before_4, before_5, before_6, before_7]
  obtain ⟨n, hn, rfl⟩ : ∃ n, ∃ hn : n + 1 < 4, t = pt (n + 1) hn :=
    ⟨t.val - 1, by omega, Fin.ext (by show t.val = t.val - 1 + 1; omega)⟩
  rw [leaves_out_idle m c _ h3]
  rw [show (dats m 0 c).Φ (pt (n + 1) hn).castSucc = inv m c (n + 1) (Nat.le_of_lt hn) from rfl, inv_succ m c (n + 1) hn]
  unfold inv
  iintro ⟨⟨⟨HF, HH, HA⟩, Hg⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩⟩
  icases HH with ⟨%dH, %hH, HH⟩
  iapply (run_middle c (grid0.coords (pt (n + 1) hn)) _ _ _ _ _ _ _ _ _ _ _ _ _ _ _ _ _ _ _ _ _ _ _ _
    (fun e => absurd ((atFirst_iff _).mp e) (Nat.succ_ne_zero n)) ((pastFirst_iff _).mpr h) (fun e => h3 ((atLast_iff _).mp e))
      (iblk m c 0 (pt (n + 1) hn)) (iblk m c 1 (pt (n + 1) hn)) (iblk m c 2 (pt (n + 1) hn)) (iblk m c 3 (pt (n + 1) hn))
      (iblk m c 4 (pt (n + 1) hn)) (iblk m c 5 (pt (n + 1) hn)) (iblk m c 6 (pt (n + 1) hn)) (iblk m c 7 (pt (n + 1) hn))
      _ _ dH _ Set.univ _)
  isplitl [H0 H1 H2 H3 H4 H5 H6 H7]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [HF]; · iexact HF
  isplitl [HH]; · iexact HH
  isplitl [HA]; · iexact HA
  iintro ⟨Hin, H8, HF, HH, HA⟩
  ihave Hin := (leaves_inputs m c (pt (n + 1) hn)) $$ Hin
  icases Hin with ⟨H0, H1, H2, H3, H4, H5, H6, H7⟩
  isplitl [HF HH HA Hg]
  · isplitl [HF HH HA]
    · isplitl [HF]; · iexact HF
      isplitl [HH]
      · iexists _; isplitr; swap; · iexact HH
        ipureintro
        exact putRows_hidV m c (pt (n + 1) hn) dH _ (by rw [coord_eq]) hH
      iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The obligation at the last point. -/
theorem sound_last (c : Dev nD) (t : Fin cfg0.N) (h : t.val = 3) :
    bodyPre m c t ⊢ wp frame (wpE (defs₀ (F := F)) Variants.none c none) Set.univ (bodyAt0 t) (fun _ => bodyPost m c t) := by
  have hN : t.val < 4 := Nat.lt_of_lt_of_eq t.isLt N_0
  unfold bodyPre bodyPost bodyAt0
  simp only [before_0, before_1, before_2, before_3, before_4, before_5, before_6, before_7]
  obtain rfl : t = p3 := Fin.ext h
  rw [leaves_out_last m c _ rfl]
  rw [show (dats m 0 c).Φ p3.castSucc = inv m c 3 (by decide) from rfl, inv_succ m c 3]
  unfold inv
  iintro ⟨⟨⟨HF, HH, HA⟩, Hg⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩⟩
  icases HH with ⟨%dH, %hH, HH⟩
  iapply (run_last c (grid0.coords p3) _ _ _ _ _ _ _ _ _ _ _ _ _ _ _ _ _ _ _ _ _ _ _ _
    (fun e => absurd ((atFirst_iff _).mp e) (by decide)) ((pastFirst_iff _).mpr (by decide)) ((atLast_iff _).mpr rfl)
      (iblk m c 0 p3) (iblk m c 1 p3) (iblk m c 2 p3) (iblk m c 3 p3)
      (iblk m c 4 p3) (iblk m c 5 p3) (iblk m c 6 p3) (iblk m c 7 p3)
      _ dH _ Set.univ _)
  isplitl [H0 H1 H2 H3 H4 H5 H6 H7]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [HF]; · iexact HF
  isplitl [HH]; · iexact HH
  isplitl [HA]; · iexact HA
  iintro ⟨Hin, H8, HF, HH, HA⟩
  ihave Hin := (leaves_inputs m c p3) $$ Hin
  icases Hin with ⟨H0, H1, H2, H3, H4, H5, H6, H7⟩
  isplitl [HF HH HA Hg]
  · isplitl [HF HH HA]
    · isplitl [HF]; · iexact HF
      isplitl [HH]
      · iexists _; isplitr; swap; · iexact HH
        ipureintro
        exact putRows_hidV m c p3 dH _ (by rw [coord_eq]) hH
      iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have e : putRows (1024 * (grid0.coords p3 0).val) (rowsV m c p3) dH = hidV m c :=
    funext fun y => putRows_hidV m c p3 dH _ (by rw [coord_eq]) hH y (y 0).isLt
  rw [show outV m c = scores (accV m c 3 (by decide)) (iblk m c 5 p3) (iblk m c 6 p3)
    (iblk m c 7 p3) (putRows (1024 * (grid0.coords p3 0).val)
      (rowsV m c p3) dH) from by rw [e]; rfl]
  iexact H8

/-- The body's obligation at every point. -/
theorem body_sound (c : Dev nD) : BodyObligation (dats (F := F) m 0 c) (defs₀ (F := F)) Variants.none () Set.univ := fun t => by
  have hN : t.val < 4 := Nat.lt_of_lt_of_eq t.isLt N_0
  rw [bigSep_W0, bigSep_W0,
    show defs₀ (F := F) .tc cfg0.body (cfg0.bodyArgs t (cfg0.slots t)) = bodyAt0 t from by unfold defs₀; rw [Defs.onTc_tc]]
  by_cases h0 : t.val = 0
  · exact triple_restated (sound_first m c t h0) rfl .rfl fun _ => .rfl
  by_cases h3 : t.val = 3
  · exact triple_restated (sound_last m c t h3) rfl .rfl fun _ => .rfl
  exact triple_restated (sound_middle m c t (by omega) h3) rfl .rfl fun _ => .rfl

/-- After the last point the scratches go back at contents nobody names. -/
theorem inv_out (c : Dev nD) : (dats m 0 c).Φ (Fin.last cfg0.N) ⊢ Pipeline.ΦA spec0 c := by
  rw [show (dats m 0 c).Φ (Fin.last cfg0.N) = inv m c 4 (by decide) from rfl, scratches_eq]
  unfold inv
  iintro ⟨⟨HF, ⟨%d, -, HH⟩, HA⟩, Hg⟩
  isplitl [HF HH HA]
  · isplitl [HF]; · iexists _; iexact HF
    isplitl [HH]; · iexists _; iexact HH
    iexists _; iexact HA
  iexact Hg

/-! ## The run -/

set_option backward.isDefEq.respectTransparency.types false in
/-- Every execution of the program ends; it ends with each windowed array at what the proof data say, every other buffer at
    what the host lines after the launch leave, and every semaphore at zero. -/
theorem run_all : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track (Q' := _) cfgs (dats m) (0 : Fin 1) launch0 defs₀ Variants.none m ρ main
    (hbody := fun c => (body_sound m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hin := fun _ => .rfl) (hout := inv_out m)
    (hQ' := fun _ h => h)

end Cert.KernelIdeal.Disc

end
-- ==== Proof.Result.lean ====
/-
  What a run of the ideal kernel leaves: the arguments unchanged, and the scores, laid out in one row, in the result
  buffer. The blocks the launch reads, in terms of the arguments.
-/
module

public import proofs.«01_k».proof.Proof.Region
public import Idealize.ShloMosaic.Lib.Claim

@[expose] public section

set_option maxRecDepth 16384

noncomputable section

namespace Cert.KernelIdeal.Disc

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The launch's result array -/

/-- Only the last point stores to the result array, and it stores the scores. -/
theorem flushed_out (c : Dev nD) (t : Fin cfg0.N) (hf : (cfg0.win 8).flush t = true) :
    (dats m 0 c).flushed 8 t = ((cfg0.win 8).blk t).view.read (Elt F) (outV m c) := by
  have ht : t.val < 4 := Nat.lt_of_lt_of_eq t.isLt N_0
  obtain rfl : t = p3 := Fin.ext (by have := (flush0_8 t).mp hf; show t.val = 3; omega)
  show (cfg0.win 8).cut (grid0.coords p3) ((dats m 0 c).after 8 p3) = _
  rw [after_8]
  have hz : (fun a => win0_8.index p3 a * main_v5.ty.shape.size a) = fun _ => 0 :=
    funext fun a => by fin_cases a <;> decide
  exact (Memref.read_access_unit_zero (Elt F) main_v5 hz (fun a => by rw [congrFun hz a]; simp) (outV m c)).symm

/-- The result array ends holding the scores. -/
theorem array_out (c : Dev nD) : (dats m 0 c).arrAt 8 cfg0.N = outV m c :=
  (dats m 0 c).arrAt_eq_of_cover 8 (outV m c) (flushed_out m c) fun i =>
    ⟨p3, (flush0_8 p3).mpr rfl, by
      show i ∈ ((View.whole main_v5).slice (win0_8.rect p3)).set
      rw [View.set_slice_whole, Rect.mem_set_unit]
      have h0 : (i 0 : Nat) < 2 := (i 0).isLt
      have h1 : (i 1 : Nat) < 4096 := (i 1).isLt
      intro a
      match a with
      | ⟨0, _⟩ =>
        show win0_8.index p3 0 * win0_8.size 0 ≤ (i 0 : Nat)
          ∧ (i 0 : Nat) < win0_8.index p3 0 * win0_8.size 0 + win0_8.xsize (grid0.coords p3) 0
        rw [show win0_8.index p3 0 * win0_8.size 0 = 0 from by decide +kernel,
          show win0_8.xsize (grid0.coords p3) 0 = 2 from by decide +kernel]
        omega
      | ⟨1, _⟩ =>
        show win0_8.index p3 1 * win0_8.size 1 ≤ (i 1 : Nat)
          ∧ (i 1 : Nat) < win0_8.index p3 1 * win0_8.size 1 + win0_8.xsize (grid0.coords p3) 1
        rw [show win0_8.index p3 1 * win0_8.size 1 = 0 from by decide +kernel,
          show win0_8.xsize (grid0.coords p3) 1 = 4096 from by decide +kernel]
        omega⟩

/-! ## The run -/

/-- The result of the program: the two rows of scores one after the other. -/
def resultV (c : Dev nD) : Vec F S1x8192 .f32 := shapeCast S1x8192 (outV m c) shapeCasts_S2x4096_S1x8192

/-- The host's last operation lays the result array out in one row. -/
theorem tail_out (c : Dev nD) :
    Pipeline.afterTail₀ cfgs (dats m) 0 (V0 m) [hostOps1] c main_v6 = resultV m c := by
  have h : Pipeline.withArrays (cfgs 0).spec c (V0 m c) (fun w => (dats m 0 c).arrAt w (cfgs 0).N)
      (Proc.devRef .tc main_v5) = outV m c :=
    (Pipeline.withArrays_arr spec0 launch0.win.arr_inj c (V0 m c) (fun w => (dats m 0 c).arrAt w (cfgs 0).N) 8).trans
      (array_out m c)
  unfold Pipeline.afterTail₀
  generalize Pipeline.withArrays (cfgs 0).spec c (V0 m c) (fun w => (dats m 0 c).arrAt w (cfgs 0).N) = w at h
  show StableHlo.after hostOps1 w (Proc.devRef .tc main_v6) = _
  after_results
  rw [h]
  rfl

/-- Every run ends with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

/-- Every run ends with the scores in the result buffer. -/
theorem run_result : θ_run defs (onTc (τ := τ) (main (F := F))) ⟨m, fun _ => 0, ρ⟩ (fun r => ∀ c : Dev nD,
      r.2.mem ((c.tc : Thread nD τ).loc main_v6) = resultV m c) :=
  (θ_run defs _ _).mono (fun _ h c =>
    ((h.1 c).2 main_v6 (Pipeline.mem_restRefs_of main_v6 (by decide) (by decide))).trans (tail_out m c)) (run_all m ρ)

/-! ## The blocks -/

/-- The arrays the host's reshapes make, as the launch finds them. -/
theorem V_main_v0 (c : Dev nD) : V m c main_v0
    = shapeCast S4096x512 (m ((c : Thread nD τ).loc main_arg0)) shapeCasts_S1x4096x512_S4096x512 := by
  show StableHlo.after hostOps0 _ (Proc.devRef .tc main_v0) = _
  after_results
  rfl

theorem V_main_v1 (c : Dev nD) : V m c main_v1
    = shapeCast S4096x512 (m ((c : Thread nD τ).loc main_arg1)) shapeCasts_S1x4096x512_S4096x512 := by
  show StableHlo.after hostOps0 _ (Proc.devRef .tc main_v1) = _
  after_results
  rfl

theorem V_main_v2 (c : Dev nD) : V m c main_v2
    = shapeCast S4096x4096 (m ((c : Thread nD τ).loc main_arg2)) shapeCasts_S1x4096x4096_S4096x4096 := by
  show StableHlo.after hostOps0 _ (Proc.devRef .tc main_v2) = _
  after_results
  rfl

theorem V_main_v3 (c : Dev nD) : V m c main_v3
    = shapeCast S1x128 (m ((c : Thread nD τ).loc main_arg5)) shapeCasts_S128_S1x128 := by
  show StableHlo.after hostOps0 _ (Proc.devRef .tc main_v3) = _
  after_results
  rfl

theorem V_main_v4 (c : Dev nD) : V m c main_v4
    = shapeCast S1x1 (m ((c : Thread nD τ).loc main_arg8)) shapeCasts_S1_S1x1 := by
  show StableHlo.after hostOps0 _ (Proc.devRef .tc main_v4) = _
  after_results
  rfl

/-! Every window but the adjacency's and the scores' stays at its first block. -/

theorem zero_0 : ∀ t : Fin cfg0.N, (fun a => win0_0.index t a * main_v0.ty.shape.size a) = fun _ => 0 :=
  (by decide +kernel : ∀ t : Fin grid0.N, (fun a => win0_0.index t a * main_v0.ty.shape.size a) = fun _ => 0)
theorem zero_1 : ∀ t : Fin cfg0.N, (fun a => win0_1.index t a * main_v1.ty.shape.size a) = fun _ => 0 :=
  (by decide +kernel : ∀ t : Fin grid0.N, (fun a => win0_1.index t a * main_v1.ty.shape.size a) = fun _ => 0)
theorem zero_2 : ∀ t : Fin cfg0.N, (fun a => win0_2.index t a * main_arg4.ty.shape.size a) = fun _ => 0 :=
  (by decide +kernel : ∀ t : Fin grid0.N, (fun a => win0_2.index t a * main_arg4.ty.shape.size a) = fun _ => 0)
theorem zero_3 : ∀ t : Fin cfg0.N, (fun a => win0_3.index t a * main_v3.ty.shape.size a) = fun _ => 0 :=
  (by decide +kernel : ∀ t : Fin grid0.N, (fun a => win0_3.index t a * main_v3.ty.shape.size a) = fun _ => 0)
theorem zero_5 : ∀ t : Fin cfg0.N, (fun a => win0_5.index t a * main_arg7.ty.shape.size a) = fun _ => 0 :=
  (by decide +kernel : ∀ t : Fin grid0.N, (fun a => win0_5.index t a * main_arg7.ty.shape.size a) = fun _ => 0)
theorem zero_6 : ∀ t : Fin cfg0.N, (fun a => win0_6.index t a * main_arg6.ty.shape.size a) = fun _ => 0 :=
  (by decide +kernel : ∀ t : Fin grid0.N, (fun a => win0_6.index t a * main_arg6.ty.shape.size a) = fun _ => 0)
theorem zero_7 : ∀ t : Fin cfg0.N, (fun a => win0_7.index t a * main_v4.ty.shape.size a) = fun _ => 0 :=
  (by decide +kernel : ∀ t : Fin grid0.N, (fun a => win0_7.index t a * main_v4.ty.shape.size a) = fun _ => 0)

/-- The first sequence's block is the whole array at every point. -/
theorem iblk_0 (c : Dev nD) (t : Fin cfg0.N) : iblk m c 0 t = V m c main_v0 := by
  have hz : (fun a => win0_0.index t a * main_v0.ty.shape.size a) = fun _ => 0 := zero_0 t
  exact Memref.read_access_unit_zero (Elt F) main_v0 hz (fun a => by rw [congrFun hz a]; simp) (V m c main_v0)

/-- The second sequence's block is the whole array at every point. -/
theorem iblk_1 (c : Dev nD) (t : Fin cfg0.N) : iblk m c 1 t = V m c main_v1 := by
  have hz : (fun a => win0_1.index t a * main_v1.ty.shape.size a) = fun _ => 0 := zero_1 t
  exact Memref.read_access_unit_zero (Elt F) main_v1 hz (fun a => by rw [congrFun hz a]; simp) (V m c main_v1)

/-- The feature weights's block is the whole array at every point. -/
theorem iblk_2 (c : Dev nD) (t : Fin cfg0.N) : iblk m c 2 t = V m c main_arg4 := by
  have hz : (fun a => win0_2.index t a * main_arg4.ty.shape.size a) = fun _ => 0 := zero_2 t
  exact Memref.read_access_unit_zero (Elt F) main_arg4 hz (fun a => by rw [congrFun hz a]; simp) (V m c main_arg4)

/-- The bias's block is the whole array at every point. -/
theorem iblk_3 (c : Dev nD) (t : Fin cfg0.N) : iblk m c 3 t = V m c main_v3 := by
  have hz : (fun a => win0_3.index t a * main_v3.ty.shape.size a) = fun _ => 0 := zero_3 t
  exact Memref.read_access_unit_zero (Elt F) main_v3 hz (fun a => by rw [congrFun hz a]; simp) (V m c main_v3)

/-- The scores' weights's block is the whole array at every point. -/
theorem iblk_5 (c : Dev nD) (t : Fin cfg0.N) : iblk m c 5 t = V m c main_arg7 := by
  have hz : (fun a => win0_5.index t a * main_arg7.ty.shape.size a) = fun _ => 0 := zero_5 t
  exact Memref.read_access_unit_zero (Elt F) main_arg7 hz (fun a => by rw [congrFun hz a]; simp) (V m c main_arg7)

/-- The prompt's block is the whole array at every point. -/
theorem iblk_6 (c : Dev nD) (t : Fin cfg0.N) : iblk m c 6 t = V m c main_arg6 := by
  have hz : (fun a => win0_6.index t a * main_arg6.ty.shape.size a) = fun _ => 0 := zero_6 t
  exact Memref.read_access_unit_zero (Elt F) main_arg6 hz (fun a => by rw [congrFun hz a]; simp) (V m c main_arg6)

/-- The scores' bias's block is the whole array at every point. -/
theorem iblk_7 (c : Dev nD) (t : Fin cfg0.N) : iblk m c 7 t = V m c main_v4 := by
  have hz : (fun a => win0_7.index t a * main_v4.ty.shape.size a) = fun _ => 0 := zero_7 t
  exact Memref.read_access_unit_zero (Elt F) main_v4 hz (fun a => by rw [congrFun hz a]; simp) (V m c main_v4)

/-- The adjacency's block at point `t` starts at row `1024 t`. -/
theorem rows_4 : ∀ t : Fin cfg0.N, win0_4.index t 0 = t.val ∧ win0_4.index t 1 = 0 :=
  (by decide +kernel : ∀ t : Fin grid0.N, win0_4.index t 0 = t.val ∧ win0_4.index t 1 = 0)

/-- The adjacency's block at point `t`, at an index: row `r` is row `1024 t + r` of the matrix. -/
theorem iblk_4 (c : Dev nD) (t : Fin cfg0.N) (r : Fin 1024) (k : Fin 4096) (q : Fin 4096)
    (hq : q.val = 1024 * t.val + r.val) : iblk m c 4 t (ix2 r k) = V m c main_v2 (ix2 q k) := by
  obtain ⟨e0, e1⟩ := rows_4 t
  show V m c main_v2 (((View.whole main_v2).slice (win0_4.rect t)).emb (ix2 r k)) = _
  refine congrArg (V m c main_v2) (funext fun a => Fin.ext ?_)
  match a with
  | ⟨0, _⟩ => show win0_4.index t 0 * 1024 + 1 * r.val = q.val; rw [e0, hq]; omega
  | ⟨1, _⟩ => show win0_4.index t 1 * 4096 + 1 * k.val = k.val; rw [e1]; omega

end Cert.KernelIdeal.Disc

end
-- ==== Proof.Same.lean ====
/-
  The kernel as compiled and the ideal kernel are one program, so what holds of every run of the one, at any reading
  of the floats, holds of the other.
-/
module

public import proofs.«01_k».proof.Defs
public import proofs.«01_k».proof.Proof.Gen.Kernel
public import proofs.«01_k».proof.Proof.Result
public import Idealize.ShloMosaic.Lib.Tactic

@[expose] public section

set_option maxRecDepth 16384

noncomputable section

namespace Cert.Same

open Idealize.ShloMosaic Idealize.SL.Sem

variable {F : FTy → Type} [FloatOps F]

/-- The two programs do the same on the host. -/
theorem main_eq : Cert.Kernel.main (F := F) = Cert.KernelIdeal.main (F := F) := rfl

/-- The two programs have the same kernel and the same pipeline. -/
theorem defs_eq : Cert.Kernel.defs (F := F) = Cert.KernelIdeal.defs (F := F) := by
  sl_kernel_rfl

/-- The kernel as compiled ends, leaves its arguments unchanged and every semaphore's counter at zero. -/
theorem kernel_frame : Cert.quiescent_Kernel := fun m g _ => by
  rw [main_eq, defs_eq]
  exact Cert.KernelIdeal.Disc.frame m g

end Cert.Same

end
-- ==== Proof.Math.lean ====
/-
  The scores over the extended reals, in the order the kernel takes its products and in the reference's, and why the two
  agree where the numbers that enter the products are finite.
-/
module

public import Idealize.ShloMosaic.PureOps.Ideal.Laws
public import Idealize.ShloMosaic.Lib.IdealHost

@[expose] public section

noncomputable section

namespace Cert.Scores

open Idealize.ShloMosaic

/-! ## The layer and the summary -/

/-- A sequence times the feature weights. -/
def feat (s : Fin 4096 → Fin 512 → EReal) (w : Fin 512 → Fin 128 → EReal) (n : Fin 4096) (d : Fin 128) : EReal :=
  ∑ j, s n j * w j d

/-- The graph layer: the neighbours' features summed by the adjacency's weights, the bias added, cut off below zero. -/
def layer (a : Fin 4096 → Fin 4096 → EReal) (s : Fin 4096 → Fin 512 → EReal) (w : Fin 512 → Fin 128 → EReal)
    (b : Fin 128 → EReal) (n : Fin 4096) (d : Fin 128) : EReal :=
  max (∑ k, a n k * feat s w k d + b d) 0

/-- The summary: the logistic function of each column's mean. -/
def summary (h : Fin 4096 → Fin 128 → EReal) (d : Fin 128) : EReal :=
  Ideal.logistic ((∑ n, h n d) * ((1 / 4096 : ℝ) : EReal))

/-! ## The scores, in the two orders -/

/-- Summary times weights first, then times the row: the kernel's order. -/
def summaryFirst (c : Fin 128 → EReal) (W : Fin 128 → Fin 128 → EReal) (g : Fin 128 → EReal) : EReal :=
  ∑ d, (∑ e, c e * W d e) * g d

/-- The same with a factor `p` for each column between the two products. -/
def summaryFirstScaled (c : Fin 128 → EReal) (W : Fin 128 → Fin 128 → EReal) (p g : Fin 128 → EReal) : EReal :=
  ∑ d, ((∑ e, c e * W d e) * p d) * g d

/-- Weights times the row first, then times the summary: the reference's order. -/
def rowFirst (c : Fin 128 → EReal) (W : Fin 128 → Fin 128 → EReal) (g : Fin 128 → EReal) : EReal :=
  ∑ e, c e * ∑ d, W d e * g d

/-! ## Finite numbers -/

/-- `x` is a real number. -/
def IsReal (x : EReal) : Prop := ∃ r : ℝ, x = (r : EReal)

theorem IsReal.add {x y : EReal} : IsReal x → IsReal y → IsReal (x + y) := fun ⟨r, hr⟩ ⟨q, hq⟩ =>
  ⟨r + q, by rw [hr, hq, EReal.coe_add]⟩

theorem IsReal.mul {x y : EReal} : IsReal x → IsReal y → IsReal (x * y) := fun ⟨r, hr⟩ ⟨q, hq⟩ =>
  ⟨r * q, by rw [hr, hq, EReal.coe_mul]⟩

theorem IsReal.max {x y : EReal} (hx : IsReal x) (hy : IsReal y) : IsReal (max x y) := by
  rcases max_choice x y with h | h <;> rw [h] <;> assumption

theorem IsReal.zero : IsReal 0 := ⟨0, rfl⟩

/-- A sum of real numbers, taken in the extended reals, is their sum. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose r hr using h
  exact ⟨∑ i ∈ s, r i, by rw [← coe_sum]; exact Finset.sum_congr rfl fun i _ => hr i⟩

/-- The logistic function's values are finite, at the infinities too. -/
theorem IsReal.logistic (x : EReal) : IsReal (Ideal.logistic x) := by
  induction x with
  | bot => exact ⟨0, Ideal.logistic_bot⟩
  | top => exact ⟨1, Ideal.logistic_top⟩
  | coe r => exact ⟨_, Ideal.logistic_coe r⟩

/-- A number below infinity in absolute value is a real number. -/
theorem isReal_of_abs_lt {x : EReal} (h : max x (-x) < ⊤) : IsReal x := by
  induction x with
  | bot => simp at h
  | top => simp at h
  | coe r => exact ⟨r, rfl⟩

/-- The layer of finite inputs is finite. -/
theorem isReal_layer {a : Fin 4096 → Fin 4096 → EReal} {s : Fin 4096 → Fin 512 → EReal} {w : Fin 512 → Fin 128 → EReal}
    {b : Fin 128 → EReal} (ha : ∀ n k, IsReal (a n k)) (hs : ∀ n j, IsReal (s n j)) (hw : ∀ j d, IsReal (w j d))
    (hb : ∀ d, IsReal (b d)) (n : Fin 4096) (d : Fin 128) : IsReal (layer a s w b n d) :=
  ((IsReal.sum _ fun k => (ha n k).mul (IsReal.sum _ fun j => (hs k j).mul (hw j d))).add (hb d)).max IsReal.zero

/-! ## The two orders agree -/

/-- On finite numbers the two orders give the same score. -/
theorem summaryFirst_eq {c : Fin 128 → EReal} {W : Fin 128 → Fin 128 → EReal} {g : Fin 128 → EReal}
    (hc : ∀ e, IsReal (c e)) (hW : ∀ d e, IsReal (W d e)) (hg : ∀ d, IsReal (g d)) :
    summaryFirst c W g = rowFirst c W g := by
  choose c' hc using hc
  choose W' hW using hW
  choose g' hg using hg
  simp only [summaryFirst, rowFirst, hc, hW, hg, ← EReal.coe_mul, coe_sum]
  congr 1
  simp only [Finset.sum_mul, Finset.mul_sum]
  rw [Finset.sum_comm]
  exact Finset.sum_congr rfl fun e _ => Finset.sum_congr rfl fun d _ => mul_assoc _ _ _

/-- A factor between the products may be taken into the row instead. -/
theorem summaryFirstScaled_eq (c : Fin 128 → EReal) (W : Fin 128 → Fin 128 → EReal) (p g : Fin 128 → EReal) :
    summaryFirstScaled c W p g = summaryFirst c W fun d => g d * p d :=
  Finset.sum_congr rfl fun d _ => by rw [mul_assoc, mul_comm (p d)]

/-! ## The constants -/

/-- The kernel's factor for the mean. -/
theorem word_inv_4096 : Ideal.ofBits .f32 0x39800000#32 = ((1 / 4096 : ℝ) : EReal) := by
  simp [Ideal.ofBits, Ideal.ieee]; rw [← EReal.coe_mul]; norm_num

/-- The reference's divisor for the mean. -/
theorem word_4096 : Ideal.ofBits .f32 0x45800000#32 = ((4096 : ℝ) : EReal) := by
  simp [Ideal.ofBits, Ideal.ieee]; rw [← EReal.coe_mul]; norm_num

/-- Division by 4096 is the kernel's multiplication. -/
theorem mean_eq (x : EReal) : Ideal.div x (Ideal.ofBits .f32 0x45800000#32) = x * ((1 / 4096 : ℝ) : EReal) := by
  rw [word_4096, Ideal.div_coe (by norm_num)]

/-! ## A sum over the rows, block by block -/

/-- The sum over all the rows is the sum of the four blocks' sums, taken in order. -/
theorem sum_blocks (f : Fin 4096 → EReal) (g : Fin 4 → Fin 1024 → EReal)
    (h : ∀ t r (q : Fin 4096), q.val = 1024 * t.val + r.val → g t r = f q) :
    ∑ r, g 0 r + ∑ r, g 1 r + ∑ r, g 2 r + ∑ r, g 3 r = ∑ n, f n := by
  rw [← (finProdFinEquiv (m := 4) (n := 1024)).sum_comp f, Fintype.sum_prod_type, Fin.sum_univ_four]
  simp only [fun t r => h t r (finProdFinEquiv (t, r)) (Nat.add_comm _ _)]

end Cert.Scores

end
-- ==== Proof.Value.lean ====
/-
  The ideal kernel's scores over the extended reals, entry by entry, in terms of the arguments.
-/
module

public import proofs.«01_k».proof.Proof.Result
public import proofs.«01_k».proof.Proof.Math
public import Idealize.ShloMosaic.Lib.MatmulPlain
public import Idealize.ShloMosaic.Lib.ValueLayout

@[expose] public section

set_option maxRecDepth 16384

noncomputable section

namespace Cert.KernelIdeal.Disc

open Cert.KernelIdeal Cert.KernelIdeal.Gen Cert.Scores
open Idealize.ShloMosaic Idealize.ShloMosaic.TcCoe
open Idealize.ShloMosaic.ValueIdx
open Idealize.SL.Sem

/-! ## The body's operations at an index -/

/-- A matrix product of rows by columns, started at zero. -/
theorem product_apply {M K N : ℕ} {φ₁ φ₂ : FTy} (a : FVec Ideal ⟨2, ![M, K]⟩ φ₁) (b : FVec Ideal ⟨2, ![K, N]⟩ φ₂)
    (r : Fin M) (c : Fin N) :
    FloatOps.matmul (DotDims.plain M K N) none a b (constant ⟨2, ![M, N]⟩ .f32 0x00000000#32) (ix2 r c)
      = ∑ k : Fin K, a (ix2 r k) * b (ix2 k c) := by
  rw [Ideal.matmul_plain_apply, constant_apply, Ideal.ofBits_zero_f32, zero_add]

/-- A matrix product of rows by rows, started at zero. -/
theorem product_rows_apply {M K N : ℕ} {φ₁ φ₂ : FTy} (a : FVec Ideal ⟨2, ![M, K]⟩ φ₁) (b : FVec Ideal ⟨2, ![N, K]⟩ φ₂)
    (r : Fin M) (c : Fin N) :
    FloatOps.matmul (DotDims.transposedRhs M K N) none a b (constant ⟨2, ![M, N]⟩ .f32 0x00000000#32) (ix2 r c)
      = ∑ k : Fin K, a (ix2 r k) * b (ix2 c k) := by
  rw [Ideal.matmul_transposedRhs_apply, constant_apply, Ideal.ofBits_zero_f32, zero_add]

/-- The first sequence's features. -/
theorem pay6_apply (w : Vec Ideal S512x128 .f32) (s : Vec Ideal S4096x512 .f32) (n : Fin 4096) (d : Fin 128) :
    k0_pay6 w s (ix2 n d) = feat (fun n j => s (ix2 n j)) (fun j d => w (ix2 j d)) n d := by
  unfold k0_pay6
  simp only [shapeCast_self]
  exact product_apply (φ₁ := .f32) (φ₂ := .f32) s w n d

/-- The second sequence's features. -/
theorem pay7_apply (w : Vec Ideal S512x128 .f32) (s : Vec Ideal S4096x512 .f32) (n : Fin 4096) (d : Fin 128) :
    k0_pay7 w s (ix2 n d) = feat (fun n j => s (ix2 n j)) (fun j d => w (ix2 j d)) n d := by
  unfold k0_pay7
  simp only [shapeCast_self]
  exact product_apply (φ₁ := .f32) (φ₂ := .f32) s w n d

/-- The features summed by the adjacency's weights. -/
theorem pay8_apply (a : Vec Ideal S1024x4096 .f32) (f : Vec Ideal S4096x256 .bf16) (r : Fin 1024) (q : Fin 256) :
    k0_pay8 a f (ix2 r q) = ∑ k : Fin 4096, a (ix2 r k) * f (ix2 k q) := by
  unfold k0_pay8
  simp only [shapeCast_self]
  exact product_apply (φ₁ := .bf16) (φ₂ := .bf16) a f r q

/-- The first sequence's hidden rows of a block. -/
theorem pay10_apply (a : Vec Ideal S1024x4096 .f32) (f : Vec Ideal S4096x256 .bf16) (b : Vec Ideal S1x128 .f32)
    (r : Fin 1024) (d : Fin 128) :
    k0_pay10 a f b (ix2 r d)
      = max (∑ k : Fin 4096, a (ix2 r k) * f (ix2 k ⟨d.val, by omega⟩) + b (ix2 0 d)) 0 := by
  unfold k0_pay10 k0_pay9
  simp only [shapeCast_self]
  show max (extractStridedSlice S1024x128 ![0, 0] (k0_pay8 a f) slices_S1024x256_o0_0_S1024x128 (ix2 r d)
    + broadcastTo S1024x128 b broadcasts_S1x128_S1024x128 (ix2 r d)) (Ideal.ofBits .f32 0x00000000#32) = _
  rw [slice2_axis1_apply 0 (k0_pay8 a f) _ r d ⟨d.val, by omega⟩ (Nat.zero_add _).symm, pay8_apply,
    broadcastTo_1b_ab_apply, Ideal.ofBits_zero_f32]

/-- The same as it is stored. -/
theorem pay11_apply (a : Vec Ideal S1024x4096 .f32) (f : Vec Ideal S4096x256 .bf16) (b : Vec Ideal S1x128 .f32)
    (r : Fin 1024) (d : Fin 128) :
    k0_pay11 a f b (ix2 r d)
      = max (∑ k : Fin 4096, a (ix2 r k) * f (ix2 k ⟨d.val, by omega⟩) + b (ix2 0 d)) 0 := by
  unfold k0_pay11
  simp only [shapeCast_self]
  exact pay10_apply a f b r d

/-- The second sequence's hidden rows of a block. -/
theorem pay12_apply (a : Vec Ideal S1024x4096 .f32) (f : Vec Ideal S4096x256 .bf16) (b : Vec Ideal S1x128 .f32)
    (r : Fin 1024) (d : Fin 128) :
    k0_pay12 a f b (ix2 r d)
      = max (∑ k : Fin 4096, a (ix2 r k) * f (ix2 k ⟨128 + d.val, by omega⟩) + b (ix2 0 d)) 0 := by
  unfold k0_pay12 k0_pay9
  simp only [shapeCast_self]
  show max (extractStridedSlice S1024x128 ![0, 128] (k0_pay8 a f) slices_S1024x256_o0_128_S1024x128 (ix2 r d)
    + broadcastTo S1024x128 b broadcasts_S1x128_S1024x128 (ix2 r d)) (Ideal.ofBits .f32 0x00000000#32) = _
  rw [slice2_axis1_apply 128 (k0_pay8 a f) _ r d ⟨128 + d.val, by omega⟩ rfl, pay8_apply,
    broadcastTo_1b_ab_apply, Ideal.ofBits_zero_f32]

/-- A block's column sum. -/
theorem pay13_apply (a : Vec Ideal S1024x4096 .f32) (f : Vec Ideal S4096x256 .bf16) (b : Vec Ideal S1x128 .f32)
    (d : Fin 128) : k0_pay13 a f b (ix2 0 d) = ∑ r : Fin 1024, k0_pay10 a f b (ix2 r d) := by
  unfold k0_pay13
  refine (shapeCast_a_1a_apply _ shapeCasts_S128_S1x128 0 d).trans ?_
  refine (Ideal.multiReduction_add_single (k0_pay10 a f b) _ reduces_S1024x128_S128 (.inl rfl) rfl (ix1 d)).trans ?_
  refine Finset.sum_congr rfl fun r _ => congrArg (k0_pay10 a f b) ?_
  funext x
  fin_cases x <;> rfl

/-- The weighted summary. -/
theorem pay2_apply (acc : Vec Ideal S1x128 .f32) (w : Vec Ideal S128x128 .f32) (d : Fin 128) :
    k0_pay2 acc w (ix2 0 d)
      = ∑ e : Fin 128, Ideal.logistic (acc (ix2 0 e) * ((1 / 4096 : ℝ) : EReal)) * w (ix2 d e) := by
  unfold k0_pay2
  refine (product_rows_apply (φ₁ := .f32) (φ₂ := .f32) _ w 0 d).trans (Finset.sum_congr rfl fun e _ => ?_)
  rw [← word_inv_4096]
  rfl

/-- The scores' bias. -/
theorem pay3_apply (bb : Vec Ideal S1x1 .f32) : k0_pay3 bb = bb (ix2 0 0) :=
  congrArg bb (funext fun a => by fin_cases a <;> rfl)

/-- The first row of scores. -/
theorem pay4_apply (acc : Vec Ideal S1x128 .f32) (w : Vec Ideal S128x128 .f32) (bb : Vec Ideal S1x1 .f32)
    (h : Vec Ideal S4096x128 .f32) (n : Fin 4096) :
    k0_pay4 acc w bb h (ix2 0 n)
      = summaryFirst (fun e => Ideal.logistic (acc (ix2 0 e) * ((1 / 4096 : ℝ) : EReal))) (fun d e => w (ix2 d e))
          (fun d => h (ix2 n d)) + bb (ix2 0 0) := by
  unfold k0_pay4
  refine congrArg₂ (· + ·) ((product_rows_apply (φ₁ := .f32) (φ₂ := .f32) (k0_pay2 acc w) h 0 n).trans ?_) (pay3_apply bb)
  exact Finset.sum_congr rfl fun d _ => by rw [pay2_apply]

/-- The second row of scores. -/
theorem pay5_apply (acc : Vec Ideal S1x128 .f32) (w : Vec Ideal S128x128 .f32) (p : Vec Ideal S1x128 .f32)
    (bb : Vec Ideal S1x1 .f32) (h : Vec Ideal S4096x128 .f32) (n : Fin 4096) :
    k0_pay5 acc w p bb h (ix2 0 n)
      = summaryFirstScaled (fun e => Ideal.logistic (acc (ix2 0 e) * ((1 / 4096 : ℝ) : EReal)))
          (fun d e => w (ix2 d e)) (fun d => p (ix2 0 d)) (fun d => h (ix2 n d)) + bb (ix2 0 0) := by
  unfold k0_pay5
  refine congrArg₂ (· + ·) ((product_rows_apply (φ₁ := .f32) (φ₂ := .f32) (mulf (k0_pay2 acc w) p) h 0 n).trans ?_) (pay3_apply bb)
  exact Finset.sum_congr rfl fun d _ => by rw [mulf_apply, pay2_apply]

/-! ## The arguments, read plainly -/

variable (m : (ℓ : Loc nD τ sig) → Buf (Elt Ideal) ℓ) (c : Dev nD)

/-- The two sequences. -/
def seqA (n : Fin 4096) (j : Fin 512) : EReal :=
  (m ((c : Thread nD τ).loc main_arg0) : Vec Ideal S1x4096x512 .f32) (ix3 0 n j)
def seqB (n : Fin 4096) (j : Fin 512) : EReal :=
  (m ((c : Thread nD τ).loc main_arg1) : Vec Ideal S1x4096x512 .f32) (ix3 0 n j)

/-- The adjacency. -/
def adjM (n k : Fin 4096) : EReal :=
  (m ((c : Thread nD τ).loc main_arg2) : Vec Ideal S1x4096x4096 .f32) (ix3 0 n k)

/-- The layer's weights and bias. -/
def layerW (j : Fin 512) (d : Fin 128) : EReal :=
  (m ((c : Thread nD τ).loc main_arg4) : Vec Ideal S512x128 .f32) (ix2 j d)
def layerB (d : Fin 128) : EReal := (m ((c : Thread nD τ).loc main_arg5) : Vec Ideal S128 .f32) (ix1 d)

/-- The prompt. -/
def promptV (d : Fin 128) : EReal := (m ((c : Thread nD τ).loc main_arg6) : Vec Ideal S1x128 .f32) (ix2 0 d)

/-- The scores' weights and bias. -/
def scoreW (d e : Fin 128) : EReal := (m ((c : Thread nD τ).loc main_arg7) : Vec Ideal S128x128 .f32) (ix2 d e)
def scoreB : EReal := (m ((c : Thread nD τ).loc main_arg8) : Vec Ideal S1 .f32) (ix1 0)

/-- The hidden rows of the two sequences. -/
def hidA : Fin 4096 → Fin 128 → EReal := layer (adjM m c) (seqA m c) (layerW m c) (layerB m c)
def hidB : Fin 4096 → Fin 128 → EReal := layer (adjM m c) (seqB m c) (layerW m c) (layerB m c)

/-! ## The blocks, read plainly -/

theorem read_seqA (t) (n : Fin 4096) (j : Fin 512) : iblk m c 0 t (ix2 n j) = seqA m c n j := by
  refine (congrFun (iblk_0 m c t) (ix2 n j)).trans ((congrFun (V_main_v0 m c) (ix2 n j)).trans ?_)
  exact shapeCast_1ab_ab_apply _ shapeCasts_S1x4096x512_S4096x512 n j

theorem read_seqB (t) (n : Fin 4096) (j : Fin 512) : iblk m c 1 t (ix2 n j) = seqB m c n j := by
  refine (congrFun (iblk_1 m c t) (ix2 n j)).trans ((congrFun (V_main_v1 m c) (ix2 n j)).trans ?_)
  exact shapeCast_1ab_ab_apply _ shapeCasts_S1x4096x512_S4096x512 n j

theorem read_layerW (t) (j : Fin 512) (d : Fin 128) : iblk m c 2 t (ix2 j d) = layerW m c j d :=
  (congrFun (iblk_2 m c t) (ix2 j d)).trans (congrFun (V_main_arg4 m c) (ix2 j d))

theorem read_layerB (t) (d : Fin 128) : iblk m c 3 t (ix2 0 d) = layerB m c d := by
  refine (congrFun (iblk_3 m c t) (ix2 0 d)).trans ((congrFun (V_main_v3 m c) (ix2 0 d)).trans ?_)
  exact shapeCast_a_1a_apply _ shapeCasts_S128_S1x128 0 d

theorem read_adj (t : Fin cfg0.N) (r : Fin 1024) (k q : Fin 4096) (hq : q.val = 1024 * t.val + r.val) :
    iblk m c 4 t (ix2 r k) = adjM m c q k := by
  refine (iblk_4 m c t r k q hq).trans ((congrFun (V_main_v2 m c) (ix2 q k)).trans ?_)
  exact shapeCast_1ab_ab_apply _ shapeCasts_S1x4096x4096_S4096x4096 q k

theorem read_scoreW (t) (d e : Fin 128) : iblk m c 5 t (ix2 d e) = scoreW m c d e :=
  (congrFun (iblk_5 m c t) (ix2 d e)).trans (congrFun (V_main_arg7 m c) (ix2 d e))

theorem read_prompt (t) (d : Fin 128) : iblk m c 6 t (ix2 0 d) = promptV m c d :=
  (congrFun (iblk_6 m c t) (ix2 0 d)).trans (congrFun (V_main_arg6 m c) (ix2 0 d))

theorem read_scoreB (t) : iblk m c 7 t (ix2 0 0) = scoreB m c := by
  refine (congrFun (iblk_7 m c t) (ix2 0 0)).trans ((congrFun (V_main_v4 m c) (ix2 0 0)).trans ?_)
  exact shapeCast_a_1a_apply _ shapeCasts_S1_S1x1 0 0

/-! ## What the scratches hold, read plainly -/

/-- The left of two matrices side by side. -/
theorem beside_left {n : Nat} {e : EltTy} (a b : Vec Ideal ⟨2, ![n, 128]⟩ e) (r : Fin n) (d : Fin 128) :
    beside a b (ix2 r ⟨d.val, by omega⟩) = a (ix2 r d) := dif_pos d.isLt

/-- The right of two matrices side by side. -/
theorem beside_right {n : Nat} {e : EltTy} (a b : Vec Ideal ⟨2, ![n, 128]⟩ e) (r : Fin n) (d : Fin 128) :
    beside a b (ix2 r ⟨128 + d.val, by omega⟩) = b (ix2 r d) :=
  (dif_neg (show ¬ 128 + d.val < 128 by omega)).trans
    (congrArg b (congrArg (ix2 r) (Fin.ext (Nat.add_sub_cancel_left 128 d.val))))

/-- The left half of the features is the first sequence's. -/
theorem featV_left (k : Fin 4096) (d : Fin 128) :
    featV m c (ix2 k ⟨d.val, by omega⟩) = feat (seqA m c) (layerW m c) k d := by
  refine (beside_left (n := 4096) (e := .bf16) (k0_pay6 (iblk m c 2 p0) (iblk m c 0 p0)) _ k d).trans ?_
  refine (pay6_apply _ _ k d).trans (Finset.sum_congr rfl fun j _ => ?_)
  exact congrArg₂ (· * ·) (read_seqA m c p0 k j) (read_layerW m c p0 j d)

/-- The right half of the features is the second sequence's. -/
theorem featV_right (k : Fin 4096) (d : Fin 128) :
    featV m c (ix2 k ⟨128 + d.val, by omega⟩) = feat (seqB m c) (layerW m c) k d := by
  refine (beside_right (n := 4096) (e := .bf16) _ (k0_pay7 (iblk m c 2 p0) (iblk m c 1 p0)) k d).trans ?_
  refine (pay7_apply _ _ k d).trans (Finset.sum_congr rfl fun j _ => ?_)
  exact congrArg₂ (· * ·) (read_seqB m c p0 k j) (read_layerW m c p0 j d)

/-- Row `r` of a block's first hidden rows is row `1024 t + r` of the first sequence's. -/
theorem rows_left (t : Fin cfg0.N) (r : Fin 1024) (q : Fin 4096) (hq : q.val = 1024 * t.val + r.val) (d : Fin 128) :
    k0_pay10 (iblk m c 4 t) (featV m c) (iblk m c 3 t) (ix2 r d) = hidA m c q d := by
  refine (pay10_apply _ _ _ r d).trans ?_
  refine congrArg (fun x => max x 0) (congrArg₂ (· + ·) (Finset.sum_congr rfl fun k _ => ?_) (read_layerB m c t d))
  exact congrArg₂ (· * ·) (read_adj m c t r k q hq) (featV_left m c k d)

/-- Row `r` of a block's second hidden rows is row `1024 t + r` of the second sequence's. -/
theorem rows_right (t : Fin cfg0.N) (r : Fin 1024) (q : Fin 4096) (hq : q.val = 1024 * t.val + r.val) (d : Fin 128) :
    k0_pay12 (iblk m c 4 t) (featV m c) (iblk m c 3 t) (ix2 r d) = hidB m c q d := by
  refine (pay12_apply _ _ _ r d).trans ?_
  refine congrArg (fun x => max x 0) (congrArg₂ (· + ·) (Finset.sum_congr rfl fun k _ => ?_) (read_layerB m c t d))
  exact congrArg₂ (· * ·) (read_adj m c t r k q hq) (featV_right m c k d)

/-- The left half of the hidden matrix is the first sequence's hidden rows. -/
theorem hidV_left (n : Fin 4096) (d : Fin 128) : hidV m c (ix2 n ⟨d.val, by omega⟩) = hidA m c n d := by
  refine (beside_left (n := 1024) (e := .f32) (k0_pay11 (F := Ideal) _ _ _) _ ⟨n.val % 1024, Nat.mod_lt _ (by decide)⟩ d).trans ?_
  have e : k0_pay11 (F := Ideal) = k0_pay10 := by funext a f b; unfold k0_pay11; exact shapeCast_self _ _
  rw [e]
  exact rows_left m c _ _ n (Nat.div_add_mod n.val 1024).symm d

/-- The right half of the hidden matrix is the second sequence's hidden rows. -/
theorem hidV_right (n : Fin 4096) (d : Fin 128) : hidV m c (ix2 n ⟨128 + d.val, by omega⟩) = hidB m c n d := by
  refine (beside_right (n := 1024) (e := .f32) _ (k0_pay12 (F := Ideal) _ _ _) ⟨n.val % 1024, Nat.mod_lt _ (by decide)⟩ d).trans ?_
  exact rows_right m c _ _ n (Nat.div_add_mod n.val 1024).symm d

/-- A point's column sum. -/
theorem point_sum (t : Fin cfg0.N) (d : Fin 128) :
    k0_pay13 (iblk m c 4 t) (featV m c) (iblk m c 3 t) (ix2 0 d)
      = ∑ r : Fin 1024, k0_pay10 (iblk m c 4 t) (featV m c) (iblk m c 3 t) (ix2 r d) := pay13_apply _ _ _ d

/-- The column sum after the last point is the sum of all the first sequence's hidden rows. -/
theorem accV_eq (d : Fin 128) : accV m c 3 (by decide) (ix2 0 d) = ∑ n, hidA m c n d := by
  have e1 : ∀ x y, k0_pay1 (F := Ideal) x y = addf y x := fun x y => by unfold k0_pay1; exact shapeCast_self _ _
  have e14 : k0_pay14 (F := Ideal) = k0_pay13 := by funext a f b; unfold k0_pay14; exact shapeCast_self _ _
  simp only [accV, e1, e14, addf_apply]
  rw [point_sum, point_sum, point_sum, point_sum]
  exact sum_blocks (fun n => hidA m c n d)
    (fun t r => k0_pay10 (iblk m c 4 (pt t.val t.isLt)) (featV m c) (iblk m c 3 (pt t.val t.isLt)) (ix2 r d))
    fun t r q hq => rows_left m c (pt t.val t.isLt) r q hq d

/-! ## The scores -/

/-- The two halves of the hidden matrix, as the scores take them. -/
def halfA (h : Vec Ideal S4096x256 .f32) : Vec Ideal S4096x128 .f32 := fun x =>
  h (ix2 (x 0) ⟨(x 1).val, by have : (x 1).val < 128 := (x 1).isLt; omega⟩)
def halfB (h : Vec Ideal S4096x256 .f32) : Vec Ideal S4096x128 .f32 := fun x =>
  h (ix2 (x 0) ⟨128 + (x 1).val, by have : (x 1).val < 128 := (x 1).isLt; omega⟩)

/-- The two rows of the scores. -/
theorem scores_first (acc : Vec Ideal S1x128 .f32) (w : Vec Ideal S128x128 .f32) (p : Vec Ideal S1x128 .f32)
    (bb : Vec Ideal S1x1 .f32) (h : Vec Ideal S4096x256 .f32) (n : Fin 4096) :
    scores acc w p bb h (ix2 0 n) = k0_pay4 acc w bb (halfA h) (ix2 0 n) := by
  unfold scores halfA
  exact if_pos rfl
theorem scores_second (acc : Vec Ideal S1x128 .f32) (w : Vec Ideal S128x128 .f32) (p : Vec Ideal S1x128 .f32)
    (bb : Vec Ideal S1x1 .f32) (h : Vec Ideal S4096x256 .f32) (n : Fin 4096) :
    scores acc w p bb h (ix2 1 n) = k0_pay5 acc w p bb (halfB h) (ix2 0 n) := by
  unfold scores halfB
  exact if_neg Nat.one_ne_zero

/-- The summary as the kernel forms it. -/
theorem summary_eq (e : Fin 128) :
    Ideal.logistic (accV m c 3 (by decide) (ix2 0 e) * ((1 / 4096 : ℝ) : EReal)) = summary (hidA m c) e := by
  rw [accV_eq]; rfl

/-- The first row of scores. -/
theorem outV_first (n : Fin 4096) :
    outV m c (ix2 0 n) = summaryFirst (summary (hidA m c)) (scoreW m c) (hidA m c n) + scoreB m c := by
  refine (scores_first _ _ _ _ _ n).trans ?_
  refine (pay4_apply _ _ _ _ n).trans (congrArg₂ (· + ·) ?_ (read_scoreB m c p3))
  refine Finset.sum_congr rfl fun d _ => congrArg₂ (· * ·) (Finset.sum_congr rfl fun e _ => ?_) (hidV_left m c n d)
  exact congrArg₂ (· * ·) (summary_eq m c e) (read_scoreW m c p3 d e)

/-- The second row of scores. -/
theorem outV_second (n : Fin 4096) :
    outV m c (ix2 1 n)
      = summaryFirstScaled (summary (hidA m c)) (scoreW m c) (promptV m c) (hidB m c n) + scoreB m c := by
  refine (scores_second _ _ _ _ _ n).trans ?_
  refine (pay5_apply _ _ _ _ _ n).trans (congrArg₂ (· + ·) ?_ (read_scoreB m c p3))
  refine Finset.sum_congr rfl fun d _ => congrArg₂ (· * ·) (congrArg₂ (· * ·) (Finset.sum_congr rfl fun e _ => ?_)
    (read_prompt m c p3 d)) (hidV_right m c n d)
  exact congrArg₂ (· * ·) (summary_eq m c e) (read_scoreW m c p3 d e)

/-- The result's first 4096 entries are the first row of scores. -/
theorem resultV_first (n : Fin 4096) :
    resultV m c (ix2 0 ⟨n.val, by omega⟩)
      = summaryFirst (summary (hidA m c)) (scoreW m c) (hidA m c n) + scoreB m c := by
  refine Eq.trans ?_ (outV_first m c n)
  exact shapeCast_apply _ _ _ _ (by
    rw [Shape.rowMajor_val_two, Shape.rowMajor_val_two]
    show 0 * 4096 + n.val = 0 * 8192 + n.val
    omega)

/-- The result's last 4096 entries are the second row of scores. -/
theorem resultV_second (n : Fin 4096) :
    resultV m c (ix2 0 ⟨4096 + n.val, by omega⟩)
      = summaryFirstScaled (summary (hidA m c)) (scoreW m c) (promptV m c) (hidB m c n) + scoreB m c := by
  refine Eq.trans ?_ (outV_second m c n)
  exact shapeCast_apply _ _ _ _ (by
    rw [Shape.rowMajor_val_two, Shape.rowMajor_val_two]
    show 1 * 4096 + n.val = 0 * 8192 + (4096 + n.val)
    omega)

end Cert.KernelIdeal.Disc

end
-- ==== Proof.RefValue.lean ====
/-
  The reference's scores over the extended reals, entry by entry, in terms of the arguments.
-/
module

public import proofs.«01_k».proof.Proof.Math
public import proofs.«01_k».proof.Proof.Gen.ReferenceIdeal.Read
public import Idealize.ShloMosaic.Lib.ValueIdx
public import Idealize.ShloMosaic.Lib.Pipeline.Value

@[expose] public section

set_option maxRecDepth 16384

noncomputable section

namespace Cert.ReferenceIdeal.Scores

open Cert.ReferenceIdeal Cert.ReferenceIdeal.Gen Cert.ReferenceIdeal.Read Cert.Scores
open Idealize.ShloMosaic Idealize.ShloMosaic.ValueIdx

variable (x0 x1 : (⟨S1x4096x512, .f32⟩ : BufTy).Contents (Elt Ideal))
  (x2 : (⟨S1x4096x4096, .f32⟩ : BufTy).Contents (Elt Ideal)) (x4 : (⟨S512x128, .f32⟩ : BufTy).Contents (Elt Ideal))
  (x5 : (⟨S128, .f32⟩ : BufTy).Contents (Elt Ideal)) (x6 : (⟨S1x128, .f32⟩ : BufTy).Contents (Elt Ideal))
  (x7 : (⟨S128x128, .f32⟩ : BufTy).Contents (Elt Ideal)) (x8 : (⟨S1, .f32⟩ : BufTy).Contents (Elt Ideal))

/-- The layer of the arguments' entries. -/
def layerOf (n : Fin 4096) (d : Fin 128) : EReal :=
  layer (fun n k => x2 (ix3 0 n k)) (fun n j => x0 (ix3 0 n j)) (fun j d => x4 (ix2 j d)) (fun d => x5 (ix1 d)) n d

/-! ## The layer -/

/-- A sequence's features. -/
theorem feat_apply (k : Fin 4096) (d : Fin 128) :
    val_main_v2 (F := Ideal) x0 x4 (ix2 k d)
      = feat (fun n j => x0 (ix3 0 n j)) (fun j d => x4 (ix2 j d)) k d := by
  rw [val_main_v2_apply, val_main_v0_apply]
  have hk := k.isLt
  have hd := d.isLt
  refine Finset.sum_congr rfl fun j _ => congrArg₂ (· * ·) (congrArg x0 ?_) (congrArg x4 ?_)
  · funext a
    refine Fin.ext ?_
    match a with
    | ⟨0, _⟩ => rfl
    | ⟨1, _⟩ => show (k.val * 128 + d.val) / 128 % 4096 = k.val; omega
    | ⟨2, _⟩ => rfl
  · funext a
    refine Fin.ext ?_
    match a with
    | ⟨0, _⟩ => rfl
    | ⟨1, _⟩ => show (k.val * 128 + d.val) % 128 = d.val; omega

/-- The adjacency. -/
theorem adj_apply (n k : Fin 4096) : val_main_v1 (F := Ideal) x2 (ix2 n k) = x2 (ix3 0 n k) := by
  rw [val_main_v1_apply]
  have hn := n.isLt
  have hk := k.isLt
  refine congrArg x2 (funext fun a => Fin.ext ?_)
  match a with
  | ⟨0, _⟩ => rfl
  | ⟨1, _⟩ => show (n.val * 4096 + k.val) / 4096 % 4096 = n.val; omega
  | ⟨2, _⟩ => show (n.val * 4096 + k.val) % 4096 = k.val; omega

/-- The layer. -/
theorem layer_apply (n : Fin 4096) (d : Fin 128) :
    val_main_v8 (F := Ideal) x0 x2 x4 x5 (ix3 0 n d) = layerOf x0 x2 x4 x5 n d := by
  show max (val_main_v4 (F := Ideal) x0 x2 x4 (ix3 0 n d) + val_main_v6 (F := Ideal) x5 (ix3 0 n d))
    (val_main_call0_v0 (F := Ideal) (ix3 0 n d)) = _
  rw [val_main_v4_apply, val_main_v3_apply, val_main_v6_apply, val_main_v5_apply, val_main_call0_v0_apply]
  refine congrArg₂ max (congrArg₂ (· + ·) (Finset.sum_congr rfl fun k _ => congrArg₂ (· * ·) ?_ ?_)
    (congrArg x5 ?_)) Ideal.ofBits_zero_f32
  · refine Eq.trans (congrArg _ ?_) (adj_apply x2 n k)
    funext a; match a with
    | ⟨0, _⟩ => rfl
    | ⟨1, _⟩ => rfl
  · refine Eq.trans (congrArg _ ?_) (feat_apply x0 x4 k d)
    funext a; match a with
    | ⟨0, _⟩ => rfl
    | ⟨1, _⟩ => rfl
  · funext a; match a with
    | ⟨0, _⟩ => rfl

/-- The same layer, where the first sequence's rows are scored. -/
theorem layer_apply' (n : Fin 4096) (d : Fin 128) :
    val_main_v17 (F := Ideal) x0 x2 x4 x5 (ix3 0 n d) = layerOf x0 x2 x4 x5 n d :=
  layer_apply x0 x2 x4 x5 n d

/-- The same layer of the second sequence. -/
theorem layer_apply'' (n : Fin 4096) (d : Fin 128) :
    val_main_v35 (F := Ideal) x1 x2 x4 x5 (ix3 0 n d) = layerOf x1 x2 x4 x5 n d :=
  layer_apply x1 x2 x4 x5 n d

/-! ## The summary -/

/-- The summary. -/
theorem summary_apply (e : Fin 128) :
    val_main_v26 (F := Ideal) x0 x2 x4 x5 (ix2 0 e) = summary (layerOf x0 x2 x4 x5) e := by
  show Ideal.div (val_main_v25 (F := Ideal) (ix2 0 e)) (val_main_v23 (F := Ideal) (ix2 0 e)
    + Ideal.exp (-(Ideal.div (val_main_v18 (F := Ideal) x0 x2 x4 x5 (ix2 0 e)) (val_main_v19 (F := Ideal) (ix2 0 e))))) = _
  rw [val_main_v25_apply, val_main_v23_apply, val_main_v19_apply, val_main_v18_apply]
  show Ideal.div (Ideal.ofBits .f32 0x3F800000#32) (Ideal.ofBits .f32 0x3F800000#32
    + Ideal.exp (-(Ideal.div (Ideal.ofBits .f32 0x00000000#32 + _) (Ideal.ofBits .f32 0x45800000#32)))) = _
  rw [mean_eq, Ideal.ofBits_zero_f32, zero_add, Ideal.ofBits_one_f32]
  unfold summary Ideal.logistic
  refine congrArg (fun x : EReal => Ideal.div 1 (1 + Ideal.exp (-(x * ((1 / 4096 : ℝ) : EReal)))))
    (Finset.sum_congr rfl fun n _ => ?_)
  refine Eq.trans (congrArg _ ?_) (layer_apply x0 x2 x4 x5 n e)
  funext a; match a with
  | ⟨0, _⟩ => rfl
  | ⟨1, _⟩ => rfl
  | ⟨2, _⟩ => rfl

/-- The summary, laid beside every row. -/
theorem summary_row_apply (n : Fin 4096) (e : Fin 128) :
    val_main_v40 (F := Ideal) x0 x2 x4 x5 (ix3 0 n e) = summary (layerOf x0 x2 x4 x5) e := by
  rw [val_main_v40_apply, val_main_v39_apply]
  refine Eq.trans (congrArg _ ?_) (summary_apply x0 x2 x4 x5 e)
  funext a; match a with
  | ⟨0, _⟩ => rfl
  | ⟨1, _⟩ => rfl

/-! ## The scores -/

/-- The scores' bias. -/
theorem bias_apply (n : Fin 4096) : val_main_v44 (F := Ideal) x8 (ix2 0 n) = x8 (ix1 0) := by
  rw [val_main_v44_apply, val_main_v43_apply]
  refine congrArg x8 ?_
  funext a; match a with
  | ⟨0, _⟩ => rfl

/-- A score of the first sequence. -/
theorem first_apply (n : Fin 4096) :
    val_main_v45 (F := Ideal) x0 x2 x4 x5 x7 x8 (ix2 0 n)
      = rowFirst (summary (layerOf x0 x2 x4 x5)) (fun d e => x7 (ix2 d e)) (layerOf x0 x2 x4 x5 n) + x8 (ix1 0) := by
  show val_main_v42 (F := Ideal) x0 x2 x4 x5 x7 (ix2 0 n) + val_main_v44 (F := Ideal) x8 (ix2 0 n) = _
  rw [bias_apply, val_main_v42_apply]
  refine congrArg (· + x8 (ix1 0)) (Finset.sum_congr rfl fun e _ => congrArg₂ (· * ·) ?_ ?_)
  · refine Eq.trans (congrArg _ ?_) (summary_row_apply x0 x2 x4 x5 n e)
    funext a; match a with
    | ⟨0, _⟩ => rfl
    | ⟨1, _⟩ => rfl
    | ⟨2, _⟩ => rfl
  · rw [val_main_v41_apply]
    refine Finset.sum_congr rfl fun d _ => congrArg₂ (· * ·) (congrArg x7 ?_) ?_
    · funext a; match a with
      | ⟨0, _⟩ => rfl
      | ⟨1, _⟩ => rfl
    · refine Eq.trans (congrArg _ ?_) (layer_apply' x0 x2 x4 x5 n d)
      funext a; match a with
      | ⟨0, _⟩ => rfl
      | ⟨1, _⟩ => rfl
      | ⟨2, _⟩ => rfl

/-- A row of the second sequence, times the prompt. -/
theorem prompted_apply (n : Fin 4096) (d : Fin 128) :
    val_main_v38 (F := Ideal) x1 x2 x4 x5 x6 (ix3 0 n d) = layerOf x1 x2 x4 x5 n d * x6 (ix2 0 d) := by
  show val_main_v35 (F := Ideal) x1 x2 x4 x5 (ix3 0 n d) * val_main_v37 (F := Ideal) x6 (ix3 0 n d) = _
  rw [layer_apply'', val_main_v37_apply, val_main_v36_apply]
  refine congrArg (layerOf x1 x2 x4 x5 n d * ·) (congrArg x6 ?_)
  funext a; match a with
  | ⟨0, _⟩ => rfl
  | ⟨1, _⟩ => rfl

/-- A score of the second sequence. -/
theorem second_apply (n : Fin 4096) :
    val_main_v50 (F := Ideal) x0 x1 x2 x4 x5 x6 x7 x8 (ix2 0 n)
      = rowFirst (summary (layerOf x0 x2 x4 x5)) (fun d e => x7 (ix2 d e))
          (fun d => layerOf x1 x2 x4 x5 n d * x6 (ix2 0 d)) + x8 (ix1 0) := by
  show val_main_v47 (F := Ideal) x0 x1 x2 x4 x5 x6 x7 (ix2 0 n) + val_main_v44 (F := Ideal) x8 (ix2 0 n) = _
  rw [bias_apply, val_main_v47_apply]
  refine congrArg (· + x8 (ix1 0)) (Finset.sum_congr rfl fun e _ => congrArg₂ (· * ·) ?_ ?_)
  · refine Eq.trans (congrArg _ ?_) (summary_row_apply x0 x2 x4 x5 n e)
    funext a; match a with
    | ⟨0, _⟩ => rfl
    | ⟨1, _⟩ => rfl
    | ⟨2, _⟩ => rfl
  · rw [val_main_v46_apply]
    refine Finset.sum_congr rfl fun d _ => congrArg₂ (· * ·) (congrArg x7 ?_) ?_
    · funext a; match a with
      | ⟨0, _⟩ => rfl
      | ⟨1, _⟩ => rfl
    · refine Eq.trans (congrArg _ ?_) (prompted_apply x1 x2 x4 x5 x6 n d)
      funext a; match a with
      | ⟨0, _⟩ => rfl
      | ⟨1, _⟩ => rfl
      | ⟨2, _⟩ => rfl

/-- The result's first 4096 entries are the first sequence's scores. -/
theorem result_first (n : Fin 4096) :
    val_main_v51 (F := Ideal) x0 x1 x2 x4 x5 x6 x7 x8 (ix2 0 ⟨n.val, by omega⟩)
      = rowFirst (summary (layerOf x0 x2 x4 x5)) (fun d e => x7 (ix2 d e)) (layerOf x0 x2 x4 x5 n) + x8 (ix1 0) := by
  refine Eq.trans ?_ (first_apply x0 x2 x4 x5 x7 x8 n)
  refine concatenate_pair_apply_left (t := S1x8192) (s₁ := S1x4096) (s₂ := S1x4096) 1 _ _
    concatenates_S1x4096_S1x4096_S1x8192_d1 _ rfl (ix2 0 n) fun b => ?_
  match b with
  | ⟨0, _⟩ => rfl
  | ⟨1, _⟩ => rfl

/-- The result's last 4096 entries are the second sequence's scores. -/
theorem result_second (n : Fin 4096) :
    val_main_v51 (F := Ideal) x0 x1 x2 x4 x5 x6 x7 x8 (ix2 0 ⟨4096 + n.val, by omega⟩)
      = rowFirst (summary (layerOf x0 x2 x4 x5)) (fun d e => x7 (ix2 d e))
          (fun d => layerOf x1 x2 x4 x5 n d * x6 (ix2 0 d)) + x8 (ix1 0) := by
  refine Eq.trans ?_ (second_apply x0 x1 x2 x4 x5 x6 x7 x8 n)
  refine concatenate_pair_apply_right (t := S1x8192) (s₁ := S1x4096) (s₂ := S1x4096) 1 _ _
    concatenates_S1x4096_S1x4096_S1x8192_d1 _ rfl rfl (ix2 0 n) (fun b hb => ?_) (Nat.add_comm n.val 4096)
  match b, hb with
  | ⟨0, _⟩, _ => rfl
  | ⟨1, _⟩, hb => exact absurd rfl hb

end Cert.ReferenceIdeal.Scores

end
-- ==== Proof.Finite.lean ====
/-
  What the precondition says of the kernel's arguments: every entry of the two sequences, the adjacency, the layer's
  weight and bias, the prompt and the scores' weight is a real number.
-/
module

public import proofs.«01_k».proof.Defs
public import proofs.«01_k».proof.Proof.Math

@[expose] public section

set_option maxRecDepth 16384

noncomputable section

namespace Cert.Pre_finite_inputs

open Cert.Scores
open Idealize.ShloMosaic

/-- The broadcasts of the precondition's bound are well formed. -/
instance facts : Facts where
  bcast_S_S1x4096x512 := by decide
  bcast_S_S1x4096x4096 := by decide
  bcast_S_S512x128 := by decide
  bcast_S_S128 := by decide
  bcast_S_S1x128 := by decide
  bcast_S_S128x128 := by decide

/-- The precondition's bound is the infinity. -/
theorem word_inf : Ideal.ofBits .f32 0x7F800000#32 = ⊤ := by simp [Ideal.ofBits, Ideal.ieee]

/-- An array all of whose absolute values compare below the infinity has real entries. -/
theorem isReal_of_ones {s : Shape} (x : FVec Ideal s .f32) (h : S_.BroadcastsInDim s (![] : Fin 0 → Fin s.rank))
    (e : cmpf .olt (Host.absf x) (broadcastInDim s ![] h (constant S_ .f32 0x7F800000#32)) = fun _ => 1#1)
    (i : s.Idx) : IsReal (x i) := by
  have hi : Ideal.cmp .olt (max (x i : EReal) (-(x i : EReal))) (Ideal.ofBits .f32 0x7F800000#32) = 1#1 := congrFun e i
  rw [word_inf] at hi
  refine isReal_of_abs_lt ?_
  by_contra hlt
  simp [Ideal.cmp, hlt] at hi

/-- Arrays of which the precondition holds have real entries. -/
theorem isReal_of_fn (x0 x1 : FVec Ideal S1x4096x512 .f32) (x2 : FVec Ideal S1x4096x4096 .f32) (x3 : IVec S_ 32)
    (x4 : FVec Ideal S512x128 .f32) (x5 : FVec Ideal S128 .f32) (x6 : FVec Ideal S1x128 .f32)
    (x7 : FVec Ideal S128x128 .f32) (x8 : FVec Ideal S1 .f32)
    (h : (fn x0 x1 x2 x3 x4 x5 x6 x7 x8).1 = (fun _ => 1#1)
      ∧ (fn x0 x1 x2 x3 x4 x5 x6 x7 x8).2.1 = (fun _ => 1#1)
      ∧ (fn x0 x1 x2 x3 x4 x5 x6 x7 x8).2.2.1 = (fun _ => 1#1)
      ∧ (fn x0 x1 x2 x3 x4 x5 x6 x7 x8).2.2.2.1 = (fun _ => 1#1)
      ∧ (fn x0 x1 x2 x3 x4 x5 x6 x7 x8).2.2.2.2.1 = (fun _ => 1#1)
      ∧ (fn x0 x1 x2 x3 x4 x5 x6 x7 x8).2.2.2.2.2.1 = (fun _ => 1#1)
      ∧ (fn x0 x1 x2 x3 x4 x5 x6 x7 x8).2.2.2.2.2.2 = (fun _ => 1#1)) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ ∀ i, IsReal (x7 i) :=
  ⟨isReal_of_ones x0 _ h.1, isReal_of_ones x1 _ h.2.1, isReal_of_ones x2 _ h.2.2.1, isReal_of_ones x4 _ h.2.2.2.1,
    isReal_of_ones x5 _ h.2.2.2.2.1, isReal_of_ones x6 _ h.2.2.2.2.2.1, isReal_of_ones x7 _ h.2.2.2.2.2.2⟩

end Cert.Pre_finite_inputs

end
-- ==== Proof.Equal.lean ====
/-
  On finite arguments the ideal kernel's result is the reference's, entry by entry.
-/
module

public import proofs.«01_k».proof.Proof.Value
public import proofs.«01_k».proof.Proof.RefValue
public import proofs.«01_k».proof.Proof.Finite

@[expose] public section

set_option maxRecDepth 16384

noncomputable section

namespace Cert.Equal

open Cert.Scores Cert.KernelIdeal Cert.KernelIdeal.Disc
open Idealize.ShloMosaic Idealize.ShloMosaic.TcCoe Idealize.ShloMosaic.ValueIdx
open Idealize.SL.Sem

/-- The reference's scores of the kernel's arguments are the kernel's, where the arguments are finite. -/
theorem result_eq (m : (ℓ : Loc nD τ sig) → Buf (Elt Ideal) ℓ) (h : Cert.Pre_KernelIdeal_finite_inputs m) (c : Dev nD) :
    Cert.ReferenceIdeal.Read.val_main_v51 (F := Ideal) (m ((c.tc : Thread nD τ).loc main_arg0))
        (m ((c.tc : Thread nD τ).loc main_arg1)) (m ((c.tc : Thread nD τ).loc main_arg2))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8))
      = resultV m c := by
  obtain ⟨h0, h1, h2, h4, h5, h6, h7⟩ := Cert.Pre_finite_inputs.isReal_of_fn _ _ _ _ _ _ _ _ _ (h c)
  have hc : ∀ e, IsReal (summary (hidA m c) e) := fun e => IsReal.logistic _
  have hW : ∀ d e, IsReal (scoreW m c d e) := fun d e => h7 (ix2 d e)
  have hp : ∀ d, IsReal (promptV m c d) := fun d => h6 (ix2 0 d)
  have hA : ∀ n d, IsReal (hidA m c n d) :=
    isReal_layer (fun n k => h2 (ix3 0 n k)) (fun n j => h0 (ix3 0 n j)) (fun j d => h4 (ix2 j d)) fun d => h5 (ix1 d)
  have hB : ∀ n d, IsReal (hidB m c n d) :=
    isReal_layer (fun n k => h2 (ix3 0 n k)) (fun n j => h1 (ix3 0 n j)) (fun j d => h4 (ix2 j d)) fun d => h5 (ix1 d)
  funext i
  obtain ⟨q, rfl⟩ : ∃ q : Fin 8192, i = ix2 0 q := ⟨i 1, by
    rw [eq_ix2 i]
    exact congrArg (ix2 · (i 1)) (Subsingleton.elim (α := Fin 1) _ _)⟩
  rcases Nat.lt_or_ge q.val 4096 with hq | hq
  · rw [show q = ⟨(⟨q.val, hq⟩ : Fin 4096).val, by omega⟩ from rfl, resultV_first,
      summaryFirst_eq hc hW (hA _)]
    exact Cert.ReferenceIdeal.Scores.result_first _ _ _ _ _ _ _ _ _
  · have hq' : q = ⟨4096 + (⟨q.val - 4096, by omega⟩ : Fin 4096).val, by show 4096 + (q.val - 4096) < 8192; omega⟩ :=
      Fin.ext (by show q.val = 4096 + (q.val - 4096); omega)
    rw [hq', resultV_second, summaryFirstScaled_eq,
      summaryFirst_eq hc hW fun d => (hB _ d).mul (hp d)]
    exact Cert.ReferenceIdeal.Scores.result_second _ _ _ _ _ _ _ _ _

end Cert.Equal

end
-- ==== Proof.lean ====
/-
  The proof of everything the certificate claims: the kernel's and the reference's runs end, leave their arguments
  unchanged and every semaphore's counter at zero, and on finite arguments the ideal kernel's result is the
  reference's.
-/
module

public import proofs.«01_k».proof.Defs
public import proofs.«01_k».proof.Proof.Same
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged; it declares no semaphore, so no counter is anything but zero. -/
theorem reference_frame : Cert.ReferenceIdeal.Facts → Cert.quiescent_ReferenceIdeal := fun _ m g _ =>
  (θ_run Cert.ReferenceIdeal.defs _ _).mono
    (fun r h => ⟨fun c => (h c).2, sem_eq_zero_of_no_sems rfl r.2⟩) (Cert.ReferenceIdeal.Value.run m g)

/-- From equal finite arguments the ideal kernel and the reference end with equal results. -/
theorem equal : Cert.algebraic_KernelIdeal_ReferenceIdeal_pre_finite_inputs := fun m g m' g' hpre hargs =>
  ⟨Cert.KernelIdeal.Disc.resultV m,
    (θ_run Cert.KernelIdeal.defs _ _).mono (fun _ h c => ⟨h.1 c, h.2.1 c⟩)
      (θ_run_and (Cert.KernelIdeal.Disc.run_result m g) (Cert.KernelIdeal.Disc.frame m g)),
    (θ_run Cert.ReferenceIdeal.defs _ _).mono
      (fun r h c => ⟨(h c).1.trans (by
        obtain ⟨e0, e1, e2, -, e4, e5, e6, e7, e8⟩ := hargs c
        rw [Cert.ReferenceIdeal.Read.val_main_v51_eq, e0, e1, e2, e4, e5, e6, e7, e8]
        exact Cert.Equal.result_eq m hpre c), (h c).2⟩)
      (Cert.ReferenceIdeal.Value.run m' g')⟩

theorem claim : Cert.Claim :=
  ⟨Cert.Kernel.Gen.facts, Cert.KernelIdeal.Gen.facts, Cert.ReferenceIdeal.Gen.facts, Cert.Pre_finite_inputs.facts,
    Cert.Same.kernel_frame, fun m g _ => Cert.KernelIdeal.Disc.frame m g,
    fun m g _ => Cert.KernelIdeal.Disc.frame m g, reference_frame Cert.ReferenceIdeal.Gen.facts,
    fun m g _ => reference_frame Cert.ReferenceIdeal.Gen.facts m g trivial, trivial, equal⟩

end Cert.Proof

end
